-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Quantise (m : (ℓ : Loc Cert.Quantise.nD Cert.Quantise.τ Cert.Quantise.sig) → Buf (Elt Bits) ℓ) : Prop :=
  True

def Pre_QuantiseIdeal (m : (ℓ : Loc Cert.QuantiseIdeal.nD Cert.QuantiseIdeal.τ Cert.QuantiseIdeal.sig) → Buf (Elt Ideal) ℓ) : Prop :=
  True

def Pre_QuantiseIdeal_finite [hPre_finite : Cert.Pre_finite.Facts] (m : (ℓ : Loc Cert.QuantiseIdeal.nD Cert.QuantiseIdeal.τ Cert.QuantiseIdeal.sig) → Buf (Elt Ideal) ℓ) : Prop :=
  ∀ c : Dev Cert.QuantiseIdeal.nD,
    (Cert.Pre_finite.fn (F := Ideal) (m ((c.tc : Thread Cert.QuantiseIdeal.nD Cert.QuantiseIdeal.τ).loc Cert.QuantiseIdeal.main_arg0))) = (fun _ => 1#1)

def Pre_QuantiseReferenceIdeal (m : (ℓ : Loc Cert.QuantiseReferenceIdeal.nD Cert.QuantiseReferenceIdeal.τ Cert.QuantiseReferenceIdeal.sig) → Buf (Elt Ideal) ℓ) : Prop :=
  True

def Pre_QuantiseReferenceIdeal_finite [hPre_finite : Cert.Pre_finite.Facts] (m : (ℓ : Loc Cert.QuantiseReferenceIdeal.nD Cert.QuantiseReferenceIdeal.τ Cert.QuantiseReferenceIdeal.sig) → Buf (Elt Ideal) ℓ) : Prop :=
  ∀ c : Dev Cert.QuantiseReferenceIdeal.nD,
    (Cert.Pre_finite.fn (F := Ideal) (m ((c.tc : Thread Cert.QuantiseReferenceIdeal.nD Cert.QuantiseReferenceIdeal.τ).loc Cert.QuantiseReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0))
      ∧ r.2.sem = fun _ => 0)

def quiescent_QuantiseIdeal [hQuantiseIdeal : Cert.QuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ r.2.sem = fun _ => 0)

def quiescent_QuantiseIdeal_pre_finite [hQuantiseIdeal : Cert.QuantiseIdeal.Facts] [hPre_finite : Cert.Pre_finite.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal_finite m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ r.2.sem = fun _ => 0)

def quiescent_QuantiseReferenceIdeal [hQuantiseReferenceIdeal : Cert.QuantiseReferenceIdeal.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0))
      ∧ r.2.sem = fun _ => 0)

def quiescent_QuantiseReferenceIdeal_pre_finite [hQuantiseReferenceIdeal : Cert.QuantiseReferenceIdeal.Facts] [hPre_finite : Cert.Pre_finite.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal_finite m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0))
      ∧ r.2.sem = fun _ => 0)

def preserves_Kernel_KernelIdeal : Prop :=
  IdealRules.bf16_pair.BufferStatement Cert.KernelIdeal.S10x32x2x128 Cert.KernelIdeal.S10x32x1x128
  ∧ IdealRules.bf16_pair.PackStatement Cert.KernelIdeal.S32x1280
  ∧ IdealRules.bf16_pair.Statement Cert.KernelIdeal.S1x32x2x128 Cert.KernelIdeal.S1x32x1x128
  ∧ IdealRules.bf16_pair.Statement Cert.KernelIdeal.S1x30x2x128 Cert.KernelIdeal.S1x30x1x128
  ∧ IdealRules.bf16_pair.Statement Cert.KernelIdeal.S6x5x2x128 Cert.KernelIdeal.S6x5x1x128
  ∧ IdealRules.bf16_pair.Statement Cert.KernelIdeal.S1x5x2x128 Cert.KernelIdeal.S1x5x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Quantise_QuantiseIdeal : Prop :=
  True

def algebraic_QuantiseIdeal_QuantiseReferenceIdeal_pre_finite [hQuantiseIdeal : Cert.QuantiseIdeal.Facts] [hQuantiseReferenceIdeal : Cert.QuantiseReferenceIdeal.Facts] [hPre_finite : Cert.Pre_finite.Facts] : Prop :=
  ∀ (m : (ℓ : Loc Cert.QuantiseIdeal.nD Cert.QuantiseIdeal.τ Cert.QuantiseIdeal.sig) → Buf (Elt Ideal) ℓ) (g : Dev Cert.QuantiseIdeal.nD → PrngReg)
    (m' : (ℓ : Loc Cert.QuantiseReferenceIdeal.nD Cert.QuantiseReferenceIdeal.τ Cert.QuantiseReferenceIdeal.sig) → Buf (Elt Ideal) ℓ) (g' : Dev Cert.QuantiseReferenceIdeal.nD → PrngReg), Pre_QuantiseIdeal_finite m →
    (∀ c : Dev Cert.QuantiseIdeal.nD,
      m' ((c.tc : Thread Cert.QuantiseReferenceIdeal.nD Cert.QuantiseReferenceIdeal.τ).loc Cert.QuantiseReferenceIdeal.main_arg0) = m ((c.tc : Thread Cert.QuantiseIdeal.nD Cert.QuantiseIdeal.τ).loc Cert.QuantiseIdeal.main_arg0)) →
    ∃ (v0 : (c : Dev Cert.QuantiseIdeal.nD) → Buf (Elt Ideal) ((c.tc : Thread Cert.QuantiseIdeal.nD Cert.QuantiseIdeal.τ).loc Cert.QuantiseIdeal.main_v6)) (v1 : (c : Dev Cert.QuantiseIdeal.nD) → Buf (Elt Ideal) ((c.tc : Thread Cert.QuantiseIdeal.nD Cert.QuantiseIdeal.τ).loc Cert.QuantiseIdeal.main_v3_1)),
      θ_run (Cert.QuantiseIdeal.defs (F := Ideal)) (onTc (τ := Cert.QuantiseIdeal.τ) (Cert.QuantiseIdeal.main (F := Ideal))) ⟨m, fun _ => 0, g⟩ (fun r => ∀ c : Dev Cert.QuantiseIdeal.nD,
          r.2.mem ((c.tc : Thread Cert.QuantiseIdeal.nD Cert.QuantiseIdeal.τ).loc Cert.QuantiseIdeal.main_v6) = v0 c
          ∧ r.2.mem ((c.tc : Thread Cert.QuantiseIdeal.nD Cert.QuantiseIdeal.τ).loc Cert.QuantiseIdeal.main_v3_1) = v1 c
          ∧ r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ θ_run (Cert.QuantiseReferenceIdeal.defs (F := Ideal)) (onTc (τ := Cert.QuantiseReferenceIdeal.τ) (Cert.QuantiseReferenceIdeal.main (F := Ideal))) ⟨m', fun _ => 0, g'⟩ (fun r => ∀ c : Dev Cert.QuantiseReferenceIdeal.nD,
          r.2.mem ((c.tc : Thread Cert.QuantiseReferenceIdeal.nD Cert.QuantiseReferenceIdeal.τ).loc Cert.QuantiseReferenceIdeal.main_v20) = v0 c
          ∧ r.2.mem ((c.tc : Thread Cert.QuantiseReferenceIdeal.nD Cert.QuantiseReferenceIdeal.τ).loc Cert.QuantiseReferenceIdeal.main_v13) = v1 c
          ∧ r.2.mem ((c.tc : Thread Cert.QuantiseReferenceIdeal.nD Cert.QuantiseReferenceIdeal.τ).loc Cert.QuantiseReferenceIdeal.main_arg0) = m' ((c.tc : Thread Cert.QuantiseReferenceIdeal.nD Cert.QuantiseReferenceIdeal.τ).loc Cert.QuantiseReferenceIdeal.main_arg0))

def Claim : Prop :=
  ∃ (hKernel : Cert.Kernel.Facts) (hKernelIdeal : Cert.KernelIdeal.Facts) (hReferenceIdeal : Cert.ReferenceIdeal.Facts) (hQuantise : Cert.Quantise.Facts) (hQuantiseIdeal : Cert.QuantiseIdeal.Facts) (hQuantiseReferenceIdeal : Cert.QuantiseReferenceIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Quantise (hQuantise := hQuantise)
    ∧ quiescent_QuantiseIdeal (hQuantiseIdeal := hQuantiseIdeal)
    ∧ quiescent_QuantiseIdeal_pre_finite (hQuantiseIdeal := hQuantiseIdeal) (hPre_finite := hPre_finite)
    ∧ quiescent_QuantiseReferenceIdeal (hQuantiseReferenceIdeal := hQuantiseReferenceIdeal)
    ∧ quiescent_QuantiseReferenceIdeal_pre_finite (hQuantiseReferenceIdeal := hQuantiseReferenceIdeal) (hPre_finite := hPre_finite)
    ∧ preserves_Kernel_KernelIdeal
    ∧ algebraic_KernelIdeal_ReferenceIdeal (hKernelIdeal := hKernelIdeal) (hReferenceIdeal := hReferenceIdeal)
    ∧ preserves_Quantise_QuantiseIdeal
    ∧ algebraic_QuantiseIdeal_QuantiseReferenceIdeal_pre_finite (hQuantiseIdeal := hQuantiseIdeal) (hQuantiseReferenceIdeal := hQuantiseReferenceIdeal) (hPre_finite := hPre_finite)
-- ==== Pre_finite.lean ====
abbrev S16x60x2560 : Shape := ⟨3, ![16, 60, 2560]⟩
abbrev S_ : Shape := ⟨0, ![]⟩

class Facts : Prop where
  bcast_S_S16x60x2560 : S_.BroadcastsInDim S16x60x2560 (![] : Fin 0 → Fin S16x60x2560.rank)

variable [Facts]

def fn {F : FTy → Type} [FloatOps F] (main_arg0 : FVec F S16x60x2560 .f32) : IVec S16x60x2560 1 :=
  let main_v0 : FVec F S16x60x2560 .f32 := Host.absf main_arg0
  let main_cst : FVec F S_ .f32 := constant S_ .f32 0x7F7FFFFF#32
  let main_v1 : FVec F S16x60x2560 .f32 := broadcastInDim S16x60x2560 ![] bcast_S_S16x60x2560 main_cst
  let main_v2 : IVec S16x60x2560 1 := cmpf .ole main_v0 main_v1
  main_v2
-- ==== Kernel.lean ====
abbrev S16x60x2560 : Shape := ⟨3, ![16, 60, 2560]⟩
abbrev S16x60 : Shape := ⟨2, ![16, 60]⟩
abbrev S16x2560x1280 : Shape := ⟨3, ![16, 2560, 1280]⟩
abbrev S16x1280 : Shape := ⟨2, ![16, 1280]⟩
abbrev S16x60x1 : Shape := ⟨3, ![16, 60, 1]⟩
abbrev S16x60x128 : Shape := ⟨3, ![16, 60, 128]⟩
abbrev S16x2x30x2560 : Shape := ⟨4, ![16, 2, 30, 2560]⟩
abbrev S16x2x2x2560 : Shape := ⟨4, ![16, 2, 2, 2560]⟩
abbrev S16x2x32x2560 : Shape := ⟨4, ![16, 2, 32, 2560]⟩
abbrev S1024x2560 : Shape := ⟨2, ![1024, 2560]⟩
abbrev S16x2x30x128 : Shape := ⟨4, ![16, 2, 30, 128]⟩
abbrev S16x2x2x128 : Shape := ⟨4, ![16, 2, 2, 128]⟩
abbrev S16x2x32x128 : Shape := ⟨4, ![16, 2, 32, 128]⟩
abbrev S1024x128 : Shape := ⟨2, ![1024, 128]⟩
abbrev S12x200x128 : Shape := ⟨3, ![12, 200, 128]⟩
abbrev S13x2560x1280 : Shape := ⟨3, ![13, 2560, 1280]⟩
abbrev S4x64x1280 : Shape := ⟨3, ![4, 64, 1280]⟩
abbrev S10x32x128 : Shape := ⟨3, ![10, 32, 128]⟩
abbrev S3 : Shape := ⟨1, ![3]⟩
abbrev S13 : Shape := ⟨1, ![13]⟩
abbrev S_ : Shape := ⟨0, ![]⟩
abbrev S1 : Shape := ⟨1, ![1]⟩
abbrev S1x2560x1280 : Shape := ⟨3, ![1, 2560, 1280]⟩
abbrev S2560x1280 : Shape := ⟨2, ![2560, 1280]⟩
abbrev S64x2560 : Shape := ⟨2, ![64, 2560]⟩
abbrev S64x1280 : Shape := ⟨2, ![64, 1280]⟩
abbrev S64x1 : Shape := ⟨2, ![64, 1]⟩
abbrev S1x1280 : Shape := ⟨2, ![1, 1280]⟩
abbrev S1x64x1280 : Shape := ⟨3, ![1, 64, 1280]⟩
abbrev S1x32x1280 : Shape := ⟨3, ![1, 32, 1280]⟩
abbrev S32x1280 : Shape := ⟨2, ![32, 1280]⟩
abbrev S32x128 : Shape := ⟨2, ![32, 128]⟩
abbrev S1x32x128 : Shape := ⟨3, ![1, 32, 128]⟩
abbrev S1x30x128 : Shape := ⟨3, ![1, 30, 128]⟩
abbrev S30x128 : Shape := ⟨2, ![30, 128]⟩
abbrev S6x5x128 : Shape := ⟨3, ![6, 5, 128]⟩
abbrev S12x100x128 : Shape := ⟨3, ![12, 100, 128]⟩
abbrev S12x100x2x128 : Shape := ⟨4, ![12, 100, 2, 128]⟩
abbrev S6x5x2x128 : Shape := ⟨4, ![6, 5, 2, 128]⟩
abbrev S6x5x1x128 : Shape := ⟨4, ![6, 5, 1, 128]⟩
abbrev S1x200x128 : Shape := ⟨3, ![1, 200, 128]⟩
abbrev S200x128 : Shape := ⟨2, ![200, 128]⟩
abbrev S1x5x128 : Shape := ⟨3, ![1, 5, 128]⟩
abbrev S5x128 : Shape := ⟨2, ![5, 128]⟩
abbrev S1x5x2x128 : Shape := ⟨4, ![1, 5, 2, 128]⟩
abbrev S1x5x1x128 : Shape := ⟨4, ![1, 5, 1, 128]⟩
abbrev S12x10x10x2x128 : Shape := ⟨5, ![12, 10, 10, 2, 128]⟩
abbrev S2x12x10x10x128 : Shape := ⟨5, ![2, 12, 10, 10, 128]⟩
abbrev S2x12x10x1280 : Shape := ⟨4, ![2, 12, 10, 1280]⟩

abbrev nBuf : Space → Nat
  | .hbm => 20
  | .vmem => 7
  | .smem => 0
  | _ => 0

abbrev bufTy : (tb : Table) → Fin (tcTables nBuf tb) → BufTy
  | .hbm, ⟨0, _⟩ => ⟨S16x60x2560, .fp8e4m3⟩
  | .hbm, ⟨1, _⟩ => ⟨S16x60, .f32⟩
  | .hbm, ⟨2, _⟩ => ⟨S16x2560x1280, .fp8e4m3⟩
  | .hbm, ⟨3, _⟩ => ⟨S16x1280, .f32⟩
  | .hbm, ⟨4, _⟩ => ⟨S16x60x1, .f32⟩
  | .hbm, ⟨5, _⟩ => ⟨S16x60x128, .f32⟩
  | .hbm, ⟨6, _⟩ => ⟨S16x2x30x2560, .fp8e4m3⟩
  | .hbm, ⟨7, _⟩ => ⟨S16x2x30x2560, .fp8e4m3⟩
  | .hbm, ⟨8, _⟩ => ⟨S16x2x2x2560, .fp8e4m3⟩
  | .hbm, ⟨9, _⟩ => ⟨S16x2x32x2560, .fp8e4m3⟩
  | .hbm, ⟨10, _⟩ => ⟨S1024x2560, .fp8e4m3⟩
  | .hbm, ⟨11, _⟩ => ⟨S16x2x30x128, .f32⟩
  | .hbm, ⟨12, _⟩ => ⟨S16x2x30x128, .f32⟩
  | .hbm, ⟨13, _⟩ => ⟨S16x2x2x128, .f32⟩
  | .hbm, ⟨14, _⟩ => ⟨S16x2x32x128, .f32⟩
  | .hbm, ⟨15, _⟩ => ⟨S1024x128, .f32⟩
  | .hbm, ⟨16, _⟩ => ⟨S12x200x128, .bf16⟩
  | .hbm, ⟨17, _⟩ => ⟨S12x10x10x2x128, .bf16⟩
  | .hbm, ⟨18, _⟩ => ⟨S2x12x10x10x128, .bf16⟩
  | .hbm, ⟨19, _⟩ => ⟨S2x12x10x1280, .bf16⟩
  | .local _ .vmem, ⟨0, _⟩ => ⟨S16x1280, .f32⟩
  | .local _ .vmem, ⟨1, _⟩ => ⟨S13x2560x1280, .fp8e4m3⟩
  | .local _ .vmem, ⟨2, _⟩ => ⟨S1024x2560, .fp8e4m3⟩
  | .local _ .vmem, ⟨3, _⟩ => ⟨S1024x128, .f32⟩
  | .local _ .vmem, ⟨4, _⟩ => ⟨S4x64x1280, .f32⟩
  | .local _ .vmem, ⟨5, _⟩ => ⟨S10x32x128, .i32⟩
  | .local _ .vmem, ⟨6, _⟩ => ⟨S12x200x128, .bf16⟩
  | _, _ => ⟨S16x60x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩

abbrev nD : Nat := 1
abbrev τ : Topo := Topo.v7x

variable {F : FTy → Type} [BitOps F]

abbrev grid0 : Pipeline.Grid := .none
-- ==== KernelIdeal.lean ====
abbrev S10x32x2x128 : Shape := ⟨4, ![10, 32, 2, 128]⟩
abbrev S10x32x1x128 : Shape := ⟨4, ![10, 32, 1, 128]⟩
abbrev S1x32x2x128 : Shape := ⟨4, ![1, 32, 2, 128]⟩
abbrev S1x32x1x128 : Shape := ⟨4, ![1, 32, 1, 128]⟩
abbrev S1x30x2x128 : Shape := ⟨4, ![1, 30, 2, 128]⟩
abbrev S1x30x1x128 : Shape := ⟨4, ![1, 30, 1, 128]⟩
  | .local _ .vmem, ⟨5, _⟩ => ⟨S10x32x2x128, .bf16⟩
variable {F : FTy → Type} [FloatOps F]
-- ==== ReferenceIdeal.lean ====
abbrev S16x60x2560 : Shape := ⟨3, ![16, 60, 2560]⟩
abbrev S16x60 : Shape := ⟨2, ![16, 60]⟩
abbrev S16x2560x1280 : Shape := ⟨3, ![16, 2560, 1280]⟩
abbrev S16x1280 : Shape := ⟨2, ![16, 1280]⟩
abbrev S16x60x1280 : Shape := ⟨3, ![16, 60, 1280]⟩
abbrev S16x60x1 : Shape := ⟨3, ![16, 60, 1]⟩
abbrev S16x1x1280 : Shape := ⟨3, ![16, 1, 1280]⟩
abbrev S4x4x2x6x5x1280 : Shape := ⟨6, ![4, 4, 2, 6, 5, 1280]⟩
abbrev S1x1x2x6x5x1280 : Shape := ⟨6, ![1, 1, 2, 6, 5, 1280]⟩
abbrev S2x6x5x1280 : Shape := ⟨4, ![2, 6, 5, 1280]⟩
abbrev S1x2x6x5x1280 : Shape := ⟨5, ![1, 2, 6, 5, 1280]⟩
abbrev S2x2x6x5x1280 : Shape := ⟨5, ![2, 2, 6, 5, 1280]⟩
abbrev S1x2x2x6x5x1280 : Shape := ⟨6, ![1, 2, 2, 6, 5, 1280]⟩
abbrev S2x2x2x6x5x1280 : Shape := ⟨6, ![2, 2, 2, 6, 5, 1280]⟩
abbrev S2x6x2x5x2x1280 : Shape := ⟨6, ![2, 6, 2, 5, 2, 1280]⟩
abbrev S2x12x10x1280 : Shape := ⟨4, ![2, 12, 10, 1280]⟩

abbrev nBuf : Space → Nat
  | .hbm => 130
  | .vmem => 4
  | .smem => 0
  | _ => 0

abbrev hbmTy0_0 (i : Nat) : BufTy := match i % 128 with
  | 0 => ⟨S16x60x2560, .fp8e4m3⟩
  | 1 => ⟨S16x60, .f32⟩
  | 2 => ⟨S16x2560x1280, .fp8e4m3⟩
  | 3 => ⟨S16x1280, .f32⟩
  | 4 => ⟨S16x60x2560, .f32⟩
  | 5 => ⟨S16x2560x1280, .f32⟩
  | 6 => ⟨S16x60x1280, .f32⟩
  | 7 => ⟨S16x60x1, .f32⟩
  | 8 => ⟨S16x60x1280, .f32⟩
  | 9 => ⟨S16x60x1280, .f32⟩
  | 10 => ⟨S16x1x1280, .f32⟩
  | 11 => ⟨S16x60x1280, .f32⟩
  | 12 => ⟨S16x60x1280, .f32⟩
  | 13 => ⟨S4x4x2x6x5x1280, .f32⟩
  | 14 => ⟨S1x1x2x6x5x1280, .f32⟩
  | 15 => ⟨S2x6x5x1280, .f32⟩
  | 16 => ⟨S1x1x2x6x5x1280, .f32⟩
  | 17 => ⟨S2x6x5x1280, .f32⟩
  | 18 => ⟨S2x6x5x1280, .f32⟩
  | 19 => ⟨S1x1x2x6x5x1280, .f32⟩
  | 20 => ⟨S2x6x5x1280, .f32⟩
  | 21 => ⟨S2x6x5x1280, .f32⟩
  | 22 => ⟨S1x1x2x6x5x1280, .f32⟩
  | 23 => ⟨S2x6x5x1280, .f32⟩
  | 24 => ⟨S2x6x5x1280, .f32⟩
  | 25 => ⟨S1x1x2x6x5x1280, .f32⟩
  | 26 => ⟨S2x6x5x1280, .f32⟩
  | 27 => ⟨S2x6x5x1280, .f32⟩
  | 28 => ⟨S1x1x2x6x5x1280, .f32⟩
  | 29 => ⟨S2x6x5x1280, .f32⟩
  | 30 => ⟨S2x6x5x1280, .f32⟩
  | 31 => ⟨S1x1x2x6x5x1280, .f32⟩
  | 32 => ⟨S2x6x5x1280, .f32⟩
  | 33 => ⟨S2x6x5x1280, .f32⟩
  | 34 => ⟨S1x1x2x6x5x1280, .f32⟩
  | 35 => ⟨S2x6x5x1280, .f32⟩
  | 36 => ⟨S2x6x5x1280, .f32⟩
  | 37 => ⟨S1x1x2x6x5x1280, .f32⟩
  | 38 => ⟨S2x6x5x1280, .f32⟩
  | 39 => ⟨S2x6x5x1280, .f32⟩
  | 40 => ⟨S1x1x2x6x5x1280, .f32⟩
  | 41 => ⟨S2x6x5x1280, .f32⟩
  | 42 => ⟨S1x1x2x6x5x1280, .f32⟩
  | 43 => ⟨S2x6x5x1280, .f32⟩
  | 44 => ⟨S2x6x5x1280, .f32⟩
  | 45 => ⟨S1x1x2x6x5x1280, .f32⟩
  | 46 => ⟨S2x6x5x1280, .f32⟩
  | 47 => ⟨S2x6x5x1280, .f32⟩
  | 48 => ⟨S1x1x2x6x5x1280, .f32⟩
  | 49 => ⟨S2x6x5x1280, .f32⟩
  | 50 => ⟨S2x6x5x1280, .f32⟩
  | 51 => ⟨S1x1x2x6x5x1280, .f32⟩
  | 52 => ⟨S2x6x5x1280, .f32⟩
  | 53 => ⟨S2x6x5x1280, .f32⟩
  | 54 => ⟨S1x1x2x6x5x1280, .f32⟩
  | 55 => ⟨S2x6x5x1280, .f32⟩
  | 56 => ⟨S2x6x5x1280, .f32⟩
  | 57 => ⟨S1x1x2x6x5x1280, .f32⟩
  | 58 => ⟨S2x6x5x1280, .f32⟩
  | 59 => ⟨S2x6x5x1280, .f32⟩
  | 60 => ⟨S1x1x2x6x5x1280, .f32⟩
  | 61 => ⟨S2x6x5x1280, .f32⟩
  | 62 => ⟨S2x6x5x1280, .f32⟩
  | 63 => ⟨S1x1x2x6x5x1280, .f32⟩
  | 64 => ⟨S2x6x5x1280, .f32⟩
  | 65 => ⟨S2x6x5x1280, .f32⟩
  | 66 => ⟨S1x2x6x5x1280, .f32⟩
  | 67 => ⟨S1x2x6x5x1280, .f32⟩
  | 68 => ⟨S2x2x6x5x1280, .f32⟩
  | 69 => ⟨S1x1x2x6x5x1280, .f32⟩
  | 70 => ⟨S2x6x5x1280, .f32⟩
  | 71 => ⟨S1x1x2x6x5x1280, .f32⟩
  | 72 => ⟨S2x6x5x1280, .f32⟩
  | 73 => ⟨S2x6x5x1280, .f32⟩
  | 74 => ⟨S1x1x2x6x5x1280, .f32⟩
  | 75 => ⟨S2x6x5x1280, .f32⟩
  | 76 => ⟨S2x6x5x1280, .f32⟩
  | 77 => ⟨S1x1x2x6x5x1280, .f32⟩
  | 78 => ⟨S2x6x5x1280, .f32⟩
  | 79 => ⟨S2x6x5x1280, .f32⟩
  | 80 => ⟨S1x1x2x6x5x1280, .f32⟩
  | 81 => ⟨S2x6x5x1280, .f32⟩
  | 82 => ⟨S2x6x5x1280, .f32⟩
  | 83 => ⟨S1x1x2x6x5x1280, .f32⟩
  | 84 => ⟨S2x6x5x1280, .f32⟩
  | 85 => ⟨S2x6x5x1280, .f32⟩
  | 86 => ⟨S1x1x2x6x5x1280, .f32⟩
  | 87 => ⟨S2x6x5x1280, .f32⟩
  | 88 => ⟨S2x6x5x1280, .f32⟩
  | 89 => ⟨S1x1x2x6x5x1280, .f32⟩
  | 90 => ⟨S2x6x5x1280, .f32⟩
  | 91 => ⟨S2x6x5x1280, .f32⟩
  | 92 => ⟨S1x1x2x6x5x1280, .f32⟩
  | 93 => ⟨S2x6x5x1280, .f32⟩
  | 94 => ⟨S2x6x5x1280, .f32⟩
  | 95 => ⟨S1x1x2x6x5x1280, .f32⟩
  | 96 => ⟨S2x6x5x1280, .f32⟩
  | 97 => ⟨S1x1x2x6x5x1280, .f32⟩
  | 98 => ⟨S2x6x5x1280, .f32⟩
  | 99 => ⟨S2x6x5x1280, .f32⟩
  | 100 => ⟨S1x1x2x6x5x1280, .f32⟩
  | 101 => ⟨S2x6x5x1280, .f32⟩
  | 102 => ⟨S2x6x5x1280, .f32⟩
  | 103 => ⟨S1x1x2x6x5x1280, .f32⟩
  | 104 => ⟨S2x6x5x1280, .f32⟩
  | 105 => ⟨S2x6x5x1280, .f32⟩
  | 106 => ⟨S1x1x2x6x5x1280, .f32⟩
  | 107 => ⟨S2x6x5x1280, .f32⟩
  | 108 => ⟨S2x6x5x1280, .f32⟩
  | 109 => ⟨S1x1x2x6x5x1280, .f32⟩
  | 110 => ⟨S2x6x5x1280, .f32⟩
  | 111 => ⟨S2x6x5x1280, .f32⟩
  | 112 => ⟨S1x1x2x6x5x1280, .f32⟩
  | 113 => ⟨S2x6x5x1280, .f32⟩
  | 114 => ⟨S2x6x5x1280, .f32⟩
  | 115 => ⟨S1x1x2x6x5x1280, .f32⟩
  | 116 => ⟨S2x6x5x1280, .f32⟩
  | 117 => ⟨S2x6x5x1280, .f32⟩
  | 118 => ⟨S1x1x2x6x5x1280, .f32⟩
  | 119 => ⟨S2x6x5x1280, .f32⟩
  | 120 => ⟨S2x6x5x1280, .f32⟩
  | 121 => ⟨S1x2x6x5x1280, .f32⟩
  | 122 => ⟨S1x2x6x5x1280, .f32⟩
  | 123 => ⟨S2x2x6x5x1280, .f32⟩
  | 124 => ⟨S1x2x2x6x5x1280, .f32⟩
  | 125 => ⟨S1x2x2x6x5x1280, .f32⟩
  | 126 => ⟨S2x2x2x6x5x1280, .f32⟩
  | 127 => ⟨S2x6x2x5x2x1280, .f32⟩
  | _ => ⟨S16x60x2560, .fp8e4m3⟩

abbrev hbmTy0_1 (i : Nat) : BufTy := match i % 128 with
  | 0 => ⟨S2x12x10x1280, .f32⟩
  | 1 => ⟨S2x12x10x1280, .bf16⟩
  | _ => ⟨S16x60x2560, .fp8e4m3⟩

abbrev hbmTy (i : Nat) : BufTy := match i / 128 with
  | 0 => hbmTy0_0 i
  | 1 => hbmTy0_1 i
  | _ => ⟨S16x60x2560, .fp8e4m3⟩

abbrev bufTy : (tb : Table) → Fin (tcTables nBuf tb) → BufTy
  | .hbm, ⟨i, _⟩ => hbmTy i
  | .local _ .vmem, ⟨0, _⟩ => ⟨S16x60x2560, .fp8e4m3⟩
  | .local _ .vmem, ⟨1, _⟩ => ⟨S16x2560x1280, .fp8e4m3⟩
  | .local _ .vmem, ⟨2, _⟩ => ⟨S16x60x2560, .f32⟩
  | .local _ .vmem, ⟨3, _⟩ => ⟨S16x2560x1280, .f32⟩
  | _, _ => ⟨S16x60x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x60x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2560x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x60x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2560x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Quantise.lean ====
abbrev S16x60x2560 : Shape := ⟨3, ![16, 60, 2560]⟩
abbrev S16x2x30x2560 : Shape := ⟨4, ![16, 2, 30, 2560]⟩
abbrev S_ : Shape := ⟨0, ![]⟩
abbrev S16x2x32x2560 : Shape := ⟨4, ![16, 2, 32, 2560]⟩
abbrev S4x256x2560 : Shape := ⟨3, ![4, 256, 2560]⟩
abbrev S1024x2560 : Shape := ⟨2, ![1024, 2560]⟩
abbrev S16x60 : Shape := ⟨2, ![16, 60]⟩
abbrev S256x2560 : Shape := ⟨2, ![256, 2560]⟩
abbrev S1024x128 : Shape := ⟨2, ![1024, 128]⟩
abbrev S2 : Shape := ⟨1, ![2]⟩
abbrev S64x128 : Shape := ⟨2, ![64, 128]⟩
abbrev S1x256x2560 : Shape := ⟨3, ![1, 256, 2560]⟩
abbrev S64x2560 : Shape := ⟨2, ![64, 2560]⟩
abbrev S64 : Shape := ⟨1, ![64]⟩
abbrev S64x1 : Shape := ⟨2, ![64, 1]⟩
abbrev S128x64 : Shape := ⟨2, ![128, 64]⟩
abbrev S16x64 : Shape := ⟨2, ![16, 64]⟩
abbrev S16x30 : Shape := ⟨2, ![16, 30]⟩
abbrev S1 : Shape := ⟨1, ![1]⟩

abbrev nBuf : Space → Nat
  | .hbm => 11
  | .vmem => 4
  | .smem => 0
  | _ => 0

abbrev bufTy : (tb : Table) → Fin (tcTables nBuf tb) → BufTy
  | .hbm, ⟨0, _⟩ => ⟨S16x60x2560, .f32⟩
  | .hbm, ⟨1, _⟩ => ⟨S16x2x30x2560, .f32⟩
  | .hbm, ⟨2, _⟩ => ⟨S_, .i32⟩
  | .hbm, ⟨3, _⟩ => ⟨S_, .f32⟩
  | .hbm, ⟨4, _⟩ => ⟨S16x2x32x2560, .f32⟩
  | .hbm, ⟨5, _⟩ => ⟨S4x256x2560, .f32⟩
  | .hbm, ⟨6, _⟩ => ⟨S1024x2560, .fp8e4m3⟩
  | .hbm, ⟨7, _⟩ => ⟨S16x60, .f32⟩
  | .hbm, ⟨8, _⟩ => ⟨S16x2x32x2560, .fp8e4m3⟩
  | .hbm, ⟨9, _⟩ => ⟨S16x2x30x2560, .fp8e4m3⟩
  | .hbm, ⟨10, _⟩ => ⟨S16x60x2560, .fp8e4m3⟩
  | .local _ .vmem, ⟨0, _⟩ => ⟨S256x2560, .f32⟩
  | .local _ .vmem, ⟨1, _⟩ => ⟨S1024x2560, .fp8e4m3⟩
  | .local _ .vmem, ⟨2, _⟩ => ⟨S1024x128, .f32⟩
  | .local _ .vmem, ⟨3, _⟩ => ⟨S16x60, .f32⟩
  | _, _ => ⟨S16x60x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩

abbrev nD : Nat := 1
abbrev τ : Topo := Topo.v7x

variable {F : FTy → Type} [FloatOps F]

abbrev grid0 : Pipeline.Grid := .none
-- ==== QuantiseReferenceIdeal.lean ====
abbrev S16x60x2560 : Shape := ⟨3, ![16, 60, 2560]⟩
abbrev S254 : Shape := ⟨1, ![254]⟩
abbrev S_ : Shape := ⟨0, ![]⟩
abbrev S16x60 : Shape := ⟨2, ![16, 60]⟩
abbrev S16x60x1 : Shape := ⟨3, ![16, 60, 1]⟩
abbrev S1x1x254 : Shape := ⟨3, ![1, 1, 254]⟩
abbrev S16x60x254 : Shape := ⟨3, ![16, 60, 254]⟩

abbrev nBuf : Space → Nat
  | .hbm => 42
  | .vmem => 2
  | .smem => 0
  | _ => 0

abbrev bufTy : (tb : Table) → Fin (tcTables nBuf tb) → BufTy
  | .hbm, ⟨0, _⟩ => ⟨S16x60x2560, .f32⟩
  | .hbm, ⟨1, _⟩ => ⟨S254, .f32⟩
  | .hbm, ⟨2, _⟩ => ⟨S16x60x2560, .f32⟩
  | .hbm, ⟨3, _⟩ => ⟨S_, .f32⟩
  | .hbm, ⟨4, _⟩ => ⟨S16x60, .f32⟩
  | .hbm, ⟨5, _⟩ => ⟨S_, .f32⟩
  | .hbm, ⟨6, _⟩ => ⟨S16x60, .f32⟩
  | .hbm, ⟨7, _⟩ => ⟨S16x60, .f32⟩
  | .hbm, ⟨8, _⟩ => ⟨S16x60x1, .f32⟩
  | .hbm, ⟨9, _⟩ => ⟨S1x1x254, .f32⟩
  | .hbm, ⟨10, _⟩ => ⟨S16x60x254, .f32⟩
  | .hbm, ⟨11, _⟩ => ⟨S16x60x254, .f32⟩
  | .hbm, ⟨12, _⟩ => ⟨S16x60x254, .i1⟩
  | .hbm, ⟨13, _⟩ => ⟨S_, .f32⟩
  | .hbm, ⟨14, _⟩ => ⟨S_, .f32⟩
  | .hbm, ⟨15, _⟩ => ⟨S16x60x254, .f32⟩
  | .hbm, ⟨16, _⟩ => ⟨S16x60x254, .f32⟩
  | .hbm, ⟨17, _⟩ => ⟨S16x60x254, .f32⟩
  | .hbm, ⟨18, _⟩ => ⟨S_, .f32⟩
  | .hbm, ⟨19, _⟩ => ⟨S16x60, .f32⟩
  | .hbm, ⟨20, _⟩ => ⟨S_, .f32⟩
  | .hbm, ⟨21, _⟩ => ⟨S16x60, .f32⟩
  | .hbm, ⟨22, _⟩ => ⟨S16x60, .i1⟩
  | .hbm, ⟨23, _⟩ => ⟨S_, .f32⟩
  | .hbm, ⟨24, _⟩ => ⟨S_, .f32⟩
  | .hbm, ⟨25, _⟩ => ⟨S16x60, .f32⟩
  | .hbm, ⟨26, _⟩ => ⟨S16x60, .f32⟩
  | .hbm, ⟨27, _⟩ => ⟨S_, .f32⟩
  | .hbm, ⟨28, _⟩ => ⟨S16x60, .f32⟩
  | .hbm, ⟨29, _⟩ => ⟨S16x60, .f32⟩
  | .hbm, ⟨30, _⟩ => ⟨S16x60x1, .f32⟩
  | .hbm, ⟨31, _⟩ => ⟨S16x60x2560, .f32⟩
  | .hbm, ⟨32, _⟩ => ⟨S16x60x2560, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S16x60x2560, .f32⟩
  | .hbm, ⟨37, _⟩ => ⟨S16x60x2560, .f32⟩
  | .hbm, ⟨38, _⟩ => ⟨S_, .f32⟩
  | .hbm, ⟨39, _⟩ => ⟨S16x60x2560, .f32⟩
  | .hbm, ⟨40, _⟩ => ⟨S16x60x2560, .f32⟩
  | .hbm, ⟨41, _⟩ => ⟨S16x60x2560, .fp8e4m3⟩
  | .local _ .vmem, ⟨0, _⟩ => ⟨S16x60x2560, .f32⟩
  | .local _ .vmem, ⟨1, _⟩ => ⟨S16x60x2560, .fp8e4m3⟩
  | _, _ => ⟨S16x60x2560, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_cst_5 : Ref sig .tc := ⟨.hbm, 23, rfl⟩
abbrev main_call1_v0 : Ref sig .tc := ⟨.hbm, 24, rfl⟩
abbrev main_call1_v1 : Ref sig .tc := ⟨.hbm, 25, rfl⟩
abbrev main_v13 : Ref sig .tc := ⟨.hbm, 26, rfl⟩
abbrev main_cst_6 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_7 : Ref sig .tc := ⟨.hbm, 33, rfl⟩
abbrev main_cst_8 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v19 : Ref sig .tc := ⟨.hbm, 40, rfl⟩
abbrev main_v20 : Ref sig .tc := ⟨.hbm, 41, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16x60x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x60x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KRun.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.FrameSuffixV
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-- A buffer of core `c`, whole, at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The body's own semaphore cells: three for the operands, thirteen for the weight ring, one for the results. -/
abbrev osem0 : Fin 17 → SemLoc sig := fun j => SemLoc.dma (j : Fin 17)
theorem ownSemFacts0 : Pipeline.OwnSemFacts cfg0.spec osem0 := by decide

abbrev sem0 (c : Dev nD) (j : Fin 17) : sProp 𝕄 := semVal ((c : Thread nD τ), SemLoc.dma j) 0

/-! ## The staging rows of the result, lent one by one -/

/-- Row `h` of the staging buffer of the result, as the copies name it. -/
abbrev yrow (h : ℕ) (hb : ∀ a, (![h, 0, 0] : Fin 3 → ℕ) a + S1x200x128.size a ≤ S12x200x128.size a) : Memref sig .tc .vmem S200x128 .bf16 :=
  ((Memref.whole cc0_scratch6 : Memref sig .tc .vmem S12x200x128 .bf16).slice (Rect.unit (s := S12x200x128) ![h, 0, 0] S1x200x128.size hb) (fun _ => rfl)).squeeze
    S200x128 squeezes_S1x200x128_S200x128

theorem yrow_disjoint (h h' : ℕ) (hb) (hb') (hne : h ≠ h') : Disjoint (yrow h hb).view.set (yrow h' hb').view.set := by
  rw [show (yrow h hb).view.set = (Rect.unit (s := S12x200x128) ![h, 0, 0] S1x200x128.size hb).set from
      (View.set_reshape _ _).trans (View.set_slice_whole _ _),
    show (yrow h' hb').view.set = (Rect.unit (s := S12x200x128) ![h', 0, 0] S1x200x128.size hb').set from
      (View.set_reshape _ _).trans (View.set_slice_whole _ _), Finset.disjoint_left]
  intro i hi hi'
  have h1 : h ≤ (i 0).val ∧ (i 0).val < h + 1 := (Rect.mem_set_unit.mp hi) 0
  have h2 : h' ≤ (i 0).val ∧ (i 0).val < h' + 1 := (Rect.mem_set_unit.mp hi') 0
  omega

/-- Elements carved out and put back, at some contents. -/
theorem join_back {ℓ : Loc nD τ sig} {I S : Finset (Idx ℓ)} (hI : I ⊆ S) :
    iprop((∃ g : Buf (Elt F) ℓ, ℓ ↦[I]{fullShare} g) ∗ (∃ f : Buf (Elt F) ℓ, ℓ ↦[S \ I]{fullShare} f)) ⊢ (iprop(∃ h, ℓ ↦[S]{fullShare} h) : sProp 𝕄) := by
  iintro ⟨⟨%g, Hg⟩, ⟨%f, Hf⟩⟩
  iexists _
  iapply (pointsTo_join_subset hI)
  isplitl [Hg]; · iexact Hg
  iexact Hf

/-- The even rows back into the staging buffer. -/
theorem y_join (c : Dev nD) (b0) (b2) (b4) (b6) (b8) (b10) :
    iprop((∃ f, (Memref.whole cc0_scratch6).view.loc (c : Thread nD τ) ↦[(yrow 0 b0).view.set]{fullShare} f)
        ∗ (∃ f, (Memref.whole cc0_scratch6).view.loc (c : Thread nD τ) ↦[(yrow 2 b2).view.set]{fullShare} f)
        ∗ (∃ f, (Memref.whole cc0_scratch6).view.loc (c : Thread nD τ) ↦[(yrow 4 b4).view.set]{fullShare} f)
        ∗ (∃ f, (Memref.whole cc0_scratch6).view.loc (c : Thread nD τ) ↦[(yrow 6 b6).view.set]{fullShare} f)
        ∗ (∃ f, (Memref.whole cc0_scratch6).view.loc (c : Thread nD τ) ↦[(yrow 8 b8).view.set]{fullShare} f)
        ∗ (∃ f, (Memref.whole cc0_scratch6).view.loc (c : Thread nD τ) ↦[(yrow 10 b10).view.set]{fullShare} f)
        ∗ (∃ f, (Memref.whole cc0_scratch6).view.loc (c : Thread nD τ) ↦[(((((Finset.univ \ (yrow 0 b0).view.set) \ (yrow 2 b2).view.set)
            \ (yrow 4 b4).view.set) \ (yrow 6 b6).view.set) \ (yrow 8 b8).view.set) \ (yrow 10 b10).view.set]{fullShare} f))
      ⊢ (iprop(∃ f, pt c (Memref.whole cc0_scratch6) f) : sProp 𝕄) := by
  have d := fun (h h' : ℕ) hb hb' (hne : h ≠ h') => yrow_disjoint h h' hb hb' hne
  iintro ⟨H0, H2, H4, H6, H8, H10, H⟩
  iapply (join_back (F := F) (Finset.subset_univ (yrow 0 b0).view.set))
  isplitl [H0]; · iexact H0
  iapply (join_back (F := F) (I := (yrow 2 b2).view.set) (Finset.subset_sdiff.mpr ⟨Finset.subset_univ _, d 2 0 _ _ (by decide)⟩))
  isplitl [H2]; · iexact H2
  iapply (join_back (F := F) (I := (yrow 4 b4).view.set) (Finset.subset_sdiff.mpr ⟨Finset.subset_sdiff.mpr ⟨Finset.subset_univ _, d 4 0 _ _ (by decide)⟩, d 4 2 _ _ (by decide)⟩))
  isplitl [H4]; · iexact H4
  iapply (join_back (F := F) (I := (yrow 6 b6).view.set) (Finset.subset_sdiff.mpr ⟨Finset.subset_sdiff.mpr ⟨Finset.subset_sdiff.mpr ⟨Finset.subset_univ _, d 6 0 _ _ (by decide)⟩, d 6 2 _ _ (by decide)⟩, d 6 4 _ _ (by decide)⟩))
  isplitl [H6]; · iexact H6
  iapply (join_back (F := F) (I := (yrow 8 b8).view.set) (Finset.subset_sdiff.mpr ⟨Finset.subset_sdiff.mpr ⟨Finset.subset_sdiff.mpr ⟨Finset.subset_sdiff.mpr ⟨Finset.subset_univ _, d 8 0 _ _ (by decide)⟩, d 8 2 _ _ (by decide)⟩, d 8 4 _ _ (by decide)⟩, d 8 6 _ _ (by decide)⟩))
  isplitl [H8]; · iexact H8
  iapply (join_back (F := F) (I := (yrow 10 b10).view.set) (Finset.subset_sdiff.mpr ⟨Finset.subset_sdiff.mpr ⟨Finset.subset_sdiff.mpr ⟨Finset.subset_sdiff.mpr ⟨Finset.subset_sdiff.mpr ⟨Finset.subset_univ _, d 10 0 _ _ (by decide)⟩, d 10 2 _ _ (by decide)⟩, d 10 4 _ _ (by decide)⟩, d 10 6 _ _ (by decide)⟩, d 10 8 _ _ (by decide)⟩))
  isplitl [H10]; · iexact H10
  iexact H

/-- The body's run: what it needs, and the pieces with which it leaves the result. -/
noncomputable def kernelRun0 (c : Dev nD) (fc : Buf (Elt F) ((c : Thread nD τ).loc main_v6)) (fs : Buf (Elt F) ((c : Thread nD τ).loc main_v11))
    (fw : Buf (Elt F) ((c : Thread nD τ).loc main_arg2)) (fws : Buf (Elt F) ((c : Thread nD τ).loc main_arg3)) (fy : Buf (Elt F) ((c : Thread nD τ).loc main_v12))
    (f0 : Buf (Elt F) ((c : Thread nD τ).loc cc0_scratch0)) (f1 : Buf (Elt F) ((c : Thread nD τ).loc cc0_scratch1)) (f2 : Buf (Elt F) ((c : Thread nD τ).loc cc0_scratch2)) (f3 : Buf (Elt F) ((c : Thread nD τ).loc cc0_scratch3)) (f4 : Buf (Elt F) ((c : Thread nD τ).loc cc0_scratch4)) (f5 : Buf (Elt F) ((c : Thread nD τ).loc cc0_scratch5)) (f6 : Buf (Elt F) ((c : Thread nD τ).loc cc0_scratch6)) :
    { G : Buf (Elt F) ((c : Thread nD τ).loc main_v12) //
      ∀ (W : Waits sig Unit) (K : PUnit → sProp 𝕄) (plan : Transfers.BatchOf (c : Thread nD τ) (SemLoc.dma (sig := sig) 16) 12 (windows := true)),
        iprop(pt c (Memref.whole cc0_scratch0) f0 ∗ pt c (Memref.whole cc0_scratch1) f1 ∗ pt c (Memref.whole cc0_scratch2) f2 ∗ pt c (Memref.whole cc0_scratch3) f3
            ∗ pt c (Memref.whole cc0_scratch4) f4 ∗ pt c (Memref.whole cc0_scratch5) f5 ∗ pt c (Memref.whole cc0_scratch6) f6
            ∗ sem0 c 0 ∗ sem0 c 1 ∗ sem0 c 2 ∗ sem0 c 3 ∗ sem0 c 4 ∗ sem0 c 5 ∗ sem0 c 6 ∗ sem0 c 7 ∗ sem0 c 8 ∗ sem0 c 9
            ∗ sem0 c 10 ∗ sem0 c 11 ∗ sem0 c 12 ∗ sem0 c 13 ∗ sem0 c 14 ∗ sem0 c 15 ∗ sem0 c 16
            ∗ pt c (Memref.whole main_v6) fc ∗ pt c (Memref.whole main_v11) fs ∗ pt c (Memref.whole main_arg2) fw ∗ pt c (Memref.whole main_arg3) fws ∗ pt c (Memref.whole main_v12) fy
            ∗ owes (c : Thread nD τ) 0 W
            ∗ (iprop((∃ f, pt c (Memref.whole cc0_scratch0) f) ∗ (∃ f, pt c (Memref.whole cc0_scratch1) f) ∗ (∃ f, pt c (Memref.whole cc0_scratch2) f) ∗ (∃ f, pt c (Memref.whole cc0_scratch3) f)
                ∗ (∃ f, pt c (Memref.whole cc0_scratch4) f) ∗ (∃ f, pt c (Memref.whole cc0_scratch5) f) ∗ (∃ f, pt c (Memref.whole cc0_scratch6) f)
                ∗ sem0 c 0 ∗ sem0 c 1 ∗ sem0 c 2 ∗ sem0 c 3 ∗ sem0 c 4 ∗ sem0 c 5 ∗ sem0 c 6 ∗ sem0 c 7 ∗ sem0 c 8 ∗ sem0 c 9
                ∗ sem0 c 10 ∗ sem0 c 11 ∗ sem0 c 12 ∗ sem0 c 13 ∗ sem0 c 14 ∗ sem0 c 15 ∗ sem0 c 16
                ∗ pt c (Memref.whole main_v6) fc ∗ pt c (Memref.whole main_v11) fs ∗ pt c (Memref.whole main_arg2) fw ∗ pt c (Memref.whole main_arg3) fws ∗ pt c (Memref.whole main_v12) G
                ∗ (∃ W', owes (c : Thread nD τ) 0 W')) -∗ K ⟨⟩))
          ⊢ wp frame (wpE (defs₀ (F := F)) Variants.none c none) Set.univ (bodyAt0 t0_0) K } := by
  refine ⟨?_, fun W K plan => ?run⟩
  case run =>
    unfold bodyAt0
    sl_unfold [cc0_winograd_fp8]
    iintro ⟨H0, H1, H2, H3, H4, H5, H6,
      Q0, Q1, Q2, Q3, Q4, Q5, Q6, Q7, Q8, Q9, Q10, Q11, Q12, Q13, Q14, Q15, Q16, A0, A1, A2, A3, A4, HW, Hk⟩
    set_option sl_exec.dmaWindow true in
    set_option sl_exec.dmaWindowLent true in
    sl_exec_parts
    sl_step
    iapply Hk
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6 H6_2 H6_3 H6_4 H6_5 H6_6 H6_7]
    · iapply (y_join c _ _ _ _ _ _)
      isplitl [H6_7]; · iexists _; iexact H6_7
      isplitl [H6_6]; · iexists _; iexact H6_6
      isplitl [H6_5]; · iexists _; iexact H6_5
      isplitl [H6_4]; · iexists _; iexact H6_4
      isplitl [H6_3]; · iexists _; iexact H6_3
      isplitl [H6_2]; · iexists _; iexact H6_2
      iexists _; iexact H6
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [A0]; · iexact A0
    isplitl [A1]; · iexact A1
    isplitl [A2]; · iexact A2
    isplitl [A3]; · iexact A3
    isplitl [A4]; · iexact A4
    iexists _; iexact HW

end Cert.Kernel.Hand

end
-- ==== Proof.KFrame.lean ====
module

public import proofs.«01_k».proof.Proof.KRun

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-! ## @main around the region -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The arrays in HBM that the body reads, the one it writes, and those the lines after it write. -/
def H0 : Finset (Ref sig .tc) := {main_v6, main_v11, main_arg2, main_arg3}
def R0 : Finset (Ref sig .tc) := {main_v12}
def T0 : Finset (Ref sig .tc) := {main_v13, main_v14, main_v15}
theorem H0_sub : H0 ⊆ Pipeline.restRefs sig cfg0.spec := by decide
theorem R0_sub : R0 ⊆ Pipeline.restRefs sig cfg0.spec \ H0 := by decide

theorem ownSemFactsD : Pipeline.OwnSemFacts (cfgs 0).spec osem0 := ownSemFacts0

theorem sfx_T : ∀ ops ∈ ([hostOps1] : List (List (HloOp τ sig (Elt F)))), ∀ op ∈ ops, ∀ b : Ref sig .tc, Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl | rfl | rfl
  all_goals
    simp only [StableHlo.nullary_writes, StableHlo.unary_writes, StableHlo.binary_writes, StableHlo.reshape_writes, Finset.mem_singleton] at hb
    have hb' := Proc.devRef_injective _ hb
    subst hb'
    decide

theorem ownSems00_eq (c : Dev nD) :
    (Pipeline.ownSems0 (Ix := Unit) (Name := ℕ) (U := Pipeline.UD sig nD τ) (Lvl := ℕ) (Val := Elt F) (τ := τ) osem0 c : sProp 𝕄)
      = iprop(sem0 c 0 ∗ sem0 c 1 ∗ sem0 c 2 ∗ sem0 c 3 ∗ sem0 c 4 ∗ sem0 c 5 ∗ sem0 c 6 ∗ sem0 c 7 ∗ sem0 c 8 ∗ sem0 c 9 ∗ sem0 c 10 ∗ sem0 c 11 ∗ sem0 c 12 ∗ sem0 c 13 ∗ sem0 c 14 ∗ sem0 c 15 ∗ sem0 c 16) := by
  rw [Pipeline.ownSems0_eq_of_list c osem0 [0, 1, 2, 3, 4, 5, 6, 7, 8, 9, 10, 11, 12, 13, 14, 15, 16] (by decide) (by decide)]; rfl
theorem hbmPts0_eq (c : Dev nD) (V : (b : Ref sig .tc) → Buf (Elt F) ((c : Thread nD τ).loc b)) :
    (bigSep H0 (fun b => ((c : Thread nD τ).loc b) ↦{fullShare} V b) : sProp 𝕄)
      = iprop(pt c (Memref.whole main_v6) (V main_v6) ∗ pt c (Memref.whole main_v11) (V main_v11)
        ∗ pt c (Memref.whole main_arg2) (V main_arg2) ∗ pt c (Memref.whole main_arg3) (V main_arg3)) := by
  rw [BI.bigSep_eq_bigSepL_of_eq [main_v6, main_v11, main_arg2, main_arg3] (by decide) (by decide)]; rfl
theorem resPts0_eq (c : Dev nD) (V : (b : Ref sig .tc) → Buf (Elt F) ((c : Thread nD τ).loc b)) :
    (bigSep R0 (fun b => ((c : Thread nD τ).loc b) ↦{fullShare} V b) : sProp 𝕄) = iprop(pt c (Memref.whole main_v12) (V main_v12)) := by
  rw [BI.bigSep_eq_bigSepL_of_eq [main_v12] (by decide) (by decide)]; rfl
theorem ownedPts0_eq (c : Dev nD) :
    (Pipeline.owned R0 c : sProp 𝕄) = iprop(∃ f, pt c (Memref.whole main_v12) f) := by
  unfold Pipeline.owned; rw [BI.bigSep_eq_bigSepL_of_eq [main_v12] (by decide) (by decide)]; rfl
theorem scoped0_eq (c : Dev nD) :
    (Pipeline.scopedRest (Ix := Unit) (Name := ℕ) (U := Pipeline.UD sig nD τ) (Lvl := ℕ) (Val := Elt F) (cfg0.spec) c : sProp 𝕄)
      = iprop((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f)) := by
  rw [scopedRest0_eq]

/-! ## The pipeline's proof data: the region stages no window, its buffers are the invariant's -/

def dats (_ : Fin 1) (c : Dev nD) : Dat τ (Elt F) Unit ℕ (Pipeline.UD sig nD τ) ℕ cfg0 c where
  A w := w.elim0
  after w t := w.elim0
  Φ _ := Pipeline.ΦDR osem0 cfg0.spec H0 R0 (V m) c
  q _ := fullShare
  owed _ := 0

def bodyPre (c : Dev nD) (t : Fin cfg0.N) : sProp 𝕄 := iprop((dats m 0 c).Φ t.castSucc ∗ (dats m 0 c).owesAt () t.castSucc ∗ emp)
def bodyPost (c : Dev nD) (t : Fin cfg0.N) : sProp 𝕄 := iprop((dats m 0 c).Φ t.succ ∗ (dats m 0 c).owesAt () t.succ ∗ emp)

theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost
  rw [show (dats m 0 c).Φ t0_0.succ = Pipeline.ΦDR osem0 cfg0.spec H0 R0 (V m) c from rfl,
    show (dats m 0 c).Φ t0_0.castSucc = Pipeline.ΦDR osem0 cfg0.spec H0 R0 (V m) c from rfl, Pipeline.ΦDR_eq, scoped0_eq, ownSems00_eq, hbmPts0_eq, ownedPts0_eq]
  unfold Dat.owesAt Pipeline.owesWithin
  rw [show (dats m 0 c).owed t0_0.castSucc = 0 from rfl, show (dats m 0 c).owed t0_0.succ = 0 from rfl]
  iintro ⟨⟨⟨⟨%f0, H0⟩, ⟨%f1, H1⟩, ⟨%f2, H2⟩, ⟨%f3, H3⟩, ⟨%f4, H4⟩, ⟨%f5, H5⟩, ⟨%f6, H6⟩⟩, Hg, ⟨Q0, Q1, Q2, Q3, Q4, Q5, Q6, Q7, Q8, Q9, Q10, Q11, Q12, Q13, Q14, Q15, Q16⟩, ⟨A0, A1, A2, A3⟩, ⟨%fy, A4⟩⟩, ⟨%W, -, HW⟩, -⟩
  iapply ((kernelRun0 c (V m c main_v6) (V m c main_v11) (V m c main_arg2) (V m c main_arg3) fy f0 f1 f2 f3 f4 f5 f6).2 W _ trivial)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [A0]; · iexact A0
  isplitl [A1]; · iexact A1
  isplitl [A2]; · iexact A2
  isplitl [A3]; · iexact A3
  isplitl [A4]; · iexact A4
  isplitl [HW]; · iexact HW
  iintro ⟨H0, H1, H2, H3, H4, H5, H6, Q0, Q1, Q2, Q3, Q4, Q5, Q6, Q7, Q8, Q9, Q10, Q11, Q12, Q13, Q14, Q15, Q16, A0, A1, A2, A3, A4, ⟨%W', HW'⟩⟩
  isplitl [H0 H1 H2 H3 H4 H5 H6 Q0 Q1 Q2 Q3 Q4 Q5 Q6 Q7 Q8 Q9 Q10 Q11 Q12 Q13 Q14 Q15 Q16 A0 A1 A2 A3 A4 Hg]
  · isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [Hg]; · iexact Hg
    isplitl [Q0 Q1 Q2 Q3 Q4 Q5 Q6 Q7 Q8 Q9 Q10 Q11 Q12 Q13 Q14 Q15 Q16]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      isplitl [Q13]; · iexact Q13
      isplitl [Q14]; · iexact Q14
      isplitl [Q15]; · iexact Q15
      iexact Q16
    isplitl [A0 A1 A2 A3]
    · isplitl [A0]; · iexact A0
      isplitl [A1]; · iexact A1
      isplitl [A2]; · iexact A2
      iexact A3
    iexists _; iexact A4
  isplitl [HW']
  · iexists W'; isplitr; · ipureintro; exact fun _ _ => Or.inl trivial
    iexact HW'
  iempintro

theorem bigSep_none (Φ : Fin cfg0.W → sProp 𝕄) : bigSep Finset.univ Φ = iprop(emp) := by
  rw [show (Finset.univ : Finset (Fin cfg0.W)) = ∅ from rfl, bigSep_empty]; rfl

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_none, bigSep_none, defs₀_row]
  exact triple_restated (sound_body m c t) rfl .rfl fun _ => .rfl

/-! ## The run and the frame -/

set_option backward.isDefEq.respectTransparency.types false in
theorem run_main : θ_run defs (onTc (τ := τ) (main (F := F))) (s₀ m ρ)
    (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFactsD H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_T)
    (hmain := hmainD m Variants.none) (hA := fun _ w => w.elim0) (hin := fun _ => .rfl) (hout := fun _ => .rfl) (hQ' := fun _ h => h)

/-- The frame: the program ends, nothing faults, its arguments are unchanged and every semaphore counts zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c)⟩, h.2⟩) (run_main m ρ)

end Cert.Kernel.Hand

end
-- ==== Proof.IRun.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffixV
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A buffer of core `c`, whole, at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The body's own semaphore cells: three for the operands, thirteen for the weight ring, one for the results. -/
abbrev osem0 : Fin 17 → SemLoc sig := fun j => SemLoc.dma (j : Fin 17)
theorem ownSemFacts0 : Pipeline.OwnSemFacts cfg0.spec osem0 := by decide

abbrev sem0 (c : Dev nD) (j : Fin 17) : sProp 𝕄 := semVal ((c : Thread nD τ), SemLoc.dma j) 0

/-! ## The staging rows of the result, lent one by one -/

/-- Row `h` of the staging buffer of the result, as the copies name it. -/
abbrev yrow (h : ℕ) (hb : ∀ a, (![h, 0, 0] : Fin 3 → ℕ) a + S1x200x128.size a ≤ S12x200x128.size a) : Memref sig .tc .vmem S200x128 .bf16 :=
  ((Memref.whole cc0_scratch6 : Memref sig .tc .vmem S12x200x128 .bf16).slice (Rect.unit (s := S12x200x128) ![h, 0, 0] S1x200x128.size hb) (fun _ => rfl)).squeeze
    S200x128 squeezes_S1x200x128_S200x128

theorem yrow_disjoint (h h' : ℕ) (hb) (hb') (hne : h ≠ h') : Disjoint (yrow h hb).view.set (yrow h' hb').view.set := by
  rw [show (yrow h hb).view.set = (Rect.unit (s := S12x200x128) ![h, 0, 0] S1x200x128.size hb).set from
      (View.set_reshape _ _).trans (View.set_slice_whole _ _),
    show (yrow h' hb').view.set = (Rect.unit (s := S12x200x128) ![h', 0, 0] S1x200x128.size hb').set from
      (View.set_reshape _ _).trans (View.set_slice_whole _ _), Finset.disjoint_left]
  intro i hi hi'
  have h1 : h ≤ (i 0).val ∧ (i 0).val < h + 1 := (Rect.mem_set_unit.mp hi) 0
  have h2 : h' ≤ (i 0).val ∧ (i 0).val < h' + 1 := (Rect.mem_set_unit.mp hi') 0
  omega

/-- Elements carved out and put back, at some contents. -/
theorem join_back {ℓ : Loc nD τ sig} {I S : Finset (Idx ℓ)} (hI : I ⊆ S) :
    iprop((∃ g : Buf (Elt F) ℓ, ℓ ↦[I]{fullShare} g) ∗ (∃ f : Buf (Elt F) ℓ, ℓ ↦[S \ I]{fullShare} f)) ⊢ (iprop(∃ h, ℓ ↦[S]{fullShare} h) : sProp 𝕄) := by
  iintro ⟨⟨%g, Hg⟩, ⟨%f, Hf⟩⟩
  iexists _
  iapply (pointsTo_join_subset hI)
  isplitl [Hg]; · iexact Hg
  iexact Hf

/-- The even rows back into the staging buffer. -/
theorem y_join (c : Dev nD) (b0) (b2) (b4) (b6) (b8) (b10) :
    iprop((∃ f, (Memref.whole cc0_scratch6).view.loc (c : Thread nD τ) ↦[(yrow 0 b0).view.set]{fullShare} f)
        ∗ (∃ f, (Memref.whole cc0_scratch6).view.loc (c : Thread nD τ) ↦[(yrow 2 b2).view.set]{fullShare} f)
        ∗ (∃ f, (Memref.whole cc0_scratch6).view.loc (c : Thread nD τ) ↦[(yrow 4 b4).view.set]{fullShare} f)
        ∗ (∃ f, (Memref.whole cc0_scratch6).view.loc (c : Thread nD τ) ↦[(yrow 6 b6).view.set]{fullShare} f)
        ∗ (∃ f, (Memref.whole cc0_scratch6).view.loc (c : Thread nD τ) ↦[(yrow 8 b8).view.set]{fullShare} f)
        ∗ (∃ f, (Memref.whole cc0_scratch6).view.loc (c : Thread nD τ) ↦[(yrow 10 b10).view.set]{fullShare} f)
        ∗ (∃ f, (Memref.whole cc0_scratch6).view.loc (c : Thread nD τ) ↦[(((((Finset.univ \ (yrow 0 b0).view.set) \ (yrow 2 b2).view.set)
            \ (yrow 4 b4).view.set) \ (yrow 6 b6).view.set) \ (yrow 8 b8).view.set) \ (yrow 10 b10).view.set]{fullShare} f))
      ⊢ (iprop(∃ f, pt c (Memref.whole cc0_scratch6) f) : sProp 𝕄) := by
  have d := fun (h h' : ℕ) hb hb' (hne : h ≠ h') => yrow_disjoint h h' hb hb' hne
  iintro ⟨H0, H2, H4, H6, H8, H10, H⟩
  iapply (join_back (F := F) (Finset.subset_univ (yrow 0 b0).view.set))
  isplitl [H0]; · iexact H0
  iapply (join_back (F := F) (I := (yrow 2 b2).view.set) (Finset.subset_sdiff.mpr ⟨Finset.subset_univ _, d 2 0 _ _ (by decide)⟩))
  isplitl [H2]; · iexact H2
  iapply (join_back (F := F) (I := (yrow 4 b4).view.set) (Finset.subset_sdiff.mpr ⟨Finset.subset_sdiff.mpr ⟨Finset.subset_univ _, d 4 0 _ _ (by decide)⟩, d 4 2 _ _ (by decide)⟩))
  isplitl [H4]; · iexact H4
  iapply (join_back (F := F) (I := (yrow 6 b6).view.set) (Finset.subset_sdiff.mpr ⟨Finset.subset_sdiff.mpr ⟨Finset.subset_sdiff.mpr ⟨Finset.subset_univ _, d 6 0 _ _ (by decide)⟩, d 6 2 _ _ (by decide)⟩, d 6 4 _ _ (by decide)⟩))
  isplitl [H6]; · iexact H6
  iapply (join_back (F := F) (I := (yrow 8 b8).view.set) (Finset.subset_sdiff.mpr ⟨Finset.subset_sdiff.mpr ⟨Finset.subset_sdiff.mpr ⟨Finset.subset_sdiff.mpr ⟨Finset.subset_univ _, d 8 0 _ _ (by decide)⟩, d 8 2 _ _ (by decide)⟩, d 8 4 _ _ (by decide)⟩, d 8 6 _ _ (by decide)⟩))
  isplitl [H8]; · iexact H8
  iapply (join_back (F := F) (I := (yrow 10 b10).view.set) (Finset.subset_sdiff.mpr ⟨Finset.subset_sdiff.mpr ⟨Finset.subset_sdiff.mpr ⟨Finset.subset_sdiff.mpr ⟨Finset.subset_sdiff.mpr ⟨Finset.subset_univ _, d 10 0 _ _ (by decide)⟩, d 10 2 _ _ (by decide)⟩, d 10 4 _ _ (by decide)⟩, d 10 6 _ _ (by decide)⟩, d 10 8 _ _ (by decide)⟩))
  isplitl [H10]; · iexact H10
  iexact H

/-- The body's run: what it needs, and the pieces with which it leaves the result. -/
noncomputable def kernelRun0 (c : Dev nD) (fc : Buf (Elt F) ((c : Thread nD τ).loc main_v6)) (fs : Buf (Elt F) ((c : Thread nD τ).loc main_v11))
    (fw : Buf (Elt F) ((c : Thread nD τ).loc main_arg2)) (fws : Buf (Elt F) ((c : Thread nD τ).loc main_arg3)) (fy : Buf (Elt F) ((c : Thread nD τ).loc main_v12))
    (f0 : Buf (Elt F) ((c : Thread nD τ).loc cc0_scratch0)) (f1 : Buf (Elt F) ((c : Thread nD τ).loc cc0_scratch1)) (f2 : Buf (Elt F) ((c : Thread nD τ).loc cc0_scratch2)) (f3 : Buf (Elt F) ((c : Thread nD τ).loc cc0_scratch3)) (f4 : Buf (Elt F) ((c : Thread nD τ).loc cc0_scratch4)) (f5 : Buf (Elt F) ((c : Thread nD τ).loc cc0_scratch5)) (f6 : Buf (Elt F) ((c : Thread nD τ).loc cc0_scratch6)) :
    { G : Buf (Elt F) ((c : Thread nD τ).loc main_v12) //
      ∀ (W : Waits sig Unit) (K : PUnit → sProp 𝕄) (plan : Transfers.BatchOf (c : Thread nD τ) (SemLoc.dma (sig := sig) 16) 12 (windows := true)),
        iprop(pt c (Memref.whole cc0_scratch0) f0 ∗ pt c (Memref.whole cc0_scratch1) f1 ∗ pt c (Memref.whole cc0_scratch2) f2 ∗ pt c (Memref.whole cc0_scratch3) f3
            ∗ pt c (Memref.whole cc0_scratch4) f4 ∗ pt c (Memref.whole cc0_scratch5) f5 ∗ pt c (Memref.whole cc0_scratch6) f6
            ∗ sem0 c 0 ∗ sem0 c 1 ∗ sem0 c 2 ∗ sem0 c 3 ∗ sem0 c 4 ∗ sem0 c 5 ∗ sem0 c 6 ∗ sem0 c 7 ∗ sem0 c 8 ∗ sem0 c 9
            ∗ sem0 c 10 ∗ sem0 c 11 ∗ sem0 c 12 ∗ sem0 c 13 ∗ sem0 c 14 ∗ sem0 c 15 ∗ sem0 c 16
            ∗ pt c (Memref.whole main_v6) fc ∗ pt c (Memref.whole main_v11) fs ∗ pt c (Memref.whole main_arg2) fw ∗ pt c (Memref.whole main_arg3) fws ∗ pt c (Memref.whole main_v12) fy
            ∗ owes (c : Thread nD τ) 0 W
            ∗ (iprop((∃ f, pt c (Memref.whole cc0_scratch0) f) ∗ (∃ f, pt c (Memref.whole cc0_scratch1) f) ∗ (∃ f, pt c (Memref.whole cc0_scratch2) f) ∗ (∃ f, pt c (Memref.whole cc0_scratch3) f)
                ∗ (∃ f, pt c (Memref.whole cc0_scratch4) f) ∗ (∃ f, pt c (Memref.whole cc0_scratch5) f) ∗ (∃ f, pt c (Memref.whole cc0_scratch6) f)
                ∗ sem0 c 0 ∗ sem0 c 1 ∗ sem0 c 2 ∗ sem0 c 3 ∗ sem0 c 4 ∗ sem0 c 5 ∗ sem0 c 6 ∗ sem0 c 7 ∗ sem0 c 8 ∗ sem0 c 9
                ∗ sem0 c 10 ∗ sem0 c 11 ∗ sem0 c 12 ∗ sem0 c 13 ∗ sem0 c 14 ∗ sem0 c 15 ∗ sem0 c 16
                ∗ pt c (Memref.whole main_v6) fc ∗ pt c (Memref.whole main_v11) fs ∗ pt c (Memref.whole main_arg2) fw ∗ pt c (Memref.whole main_arg3) fws ∗ pt c (Memref.whole main_v12) G
                ∗ (∃ W', owes (c : Thread nD τ) 0 W')) -∗ K ⟨⟩))
          ⊢ wp frame (wpE (defs₀ (F := F)) Variants.none c none) Set.univ (bodyAt0 t0_0) K } := by
  refine ⟨?_, fun W K plan => ?run⟩
  case run =>
    unfold bodyAt0
    sl_unfold [cc0_winograd_fp8]
    iintro ⟨H0, H1, H2, H3, H4, H5, H6,
      Q0, Q1, Q2, Q3, Q4, Q5, Q6, Q7, Q8, Q9, Q10, Q11, Q12, Q13, Q14, Q15, Q16, A0, A1, A2, A3, A4, HW, Hk⟩
    set_option sl_exec.rejoinFuel 64 in
    set_option sl_exec.dmaWindow true in
    set_option sl_exec.dmaWindowLent true in
    sl_exec_parts
    sl_step
    iapply Hk
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6 H6_2 H6_3 H6_4 H6_5 H6_6 H6_7]
    · iapply (y_join c _ _ _ _ _ _)
      isplitl [H6_7]; · iexists _; iexact H6_7
      isplitl [H6_6]; · iexists _; iexact H6_6
      isplitl [H6_5]; · iexists _; iexact H6_5
      isplitl [H6_4]; · iexists _; iexact H6_4
      isplitl [H6_3]; · iexists _; iexact H6_3
      isplitl [H6_2]; · iexists _; iexact H6_2
      iexists _; iexact H6
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [A0]; · iexact A0
    isplitl [A1]; · iexact A1
    isplitl [A2]; · iexact A2
    isplitl [A3]; · iexact A3
    isplitl [A4]; · iexact A4
    iexists _; iexact HW

end Cert.KernelIdeal.Hand

end
-- ==== Proof.IFrame.lean ====
module

public import proofs.«01_k».proof.Proof.IRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The arrays in HBM that the body reads, the one it writes, and those the lines after it write. -/
def H0 : Finset (Ref sig .tc) := {main_v6, main_v11, main_arg2, main_arg3}
def R0 : Finset (Ref sig .tc) := {main_v12}
def T0 : Finset (Ref sig .tc) := {main_v13, main_v14, main_v15}
theorem H0_sub : H0 ⊆ Pipeline.restRefs sig cfg0.spec := by decide
theorem R0_sub : R0 ⊆ Pipeline.restRefs sig cfg0.spec \ H0 := by decide

theorem ownSemFactsD : Pipeline.OwnSemFacts (cfgs 0).spec osem0 := ownSemFacts0

theorem sfx_T : ∀ ops ∈ ([hostOps1] : List (List (HloOp τ sig (Elt F)))), ∀ op ∈ ops, ∀ b : Ref sig .tc, Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl | rfl | rfl
  all_goals
    simp only [StableHlo.nullary_writes, StableHlo.unary_writes, StableHlo.binary_writes, StableHlo.reshape_writes, Finset.mem_singleton] at hb
    have hb' := Proc.devRef_injective _ hb
    subst hb'
    decide

theorem ownSems00_eq (c : Dev nD) :
    (Pipeline.ownSems0 (Ix := Unit) (Name := ℕ) (U := Pipeline.UD sig nD τ) (Lvl := ℕ) (Val := Elt F) (τ := τ) osem0 c : sProp 𝕄)
      = iprop(sem0 c 0 ∗ sem0 c 1 ∗ sem0 c 2 ∗ sem0 c 3 ∗ sem0 c 4 ∗ sem0 c 5 ∗ sem0 c 6 ∗ sem0 c 7 ∗ sem0 c 8 ∗ sem0 c 9 ∗ sem0 c 10 ∗ sem0 c 11 ∗ sem0 c 12 ∗ sem0 c 13 ∗ sem0 c 14 ∗ sem0 c 15 ∗ sem0 c 16) := by
  rw [Pipeline.ownSems0_eq_of_list c osem0 [0, 1, 2, 3, 4, 5, 6, 7, 8, 9, 10, 11, 12, 13, 14, 15, 16] (by decide) (by decide)]; rfl
theorem hbmPts0_eq (c : Dev nD) (V : (b : Ref sig .tc) → Buf (Elt F) ((c : Thread nD τ).loc b)) :
    (bigSep H0 (fun b => ((c : Thread nD τ).loc b) ↦{fullShare} V b) : sProp 𝕄)
      = iprop(pt c (Memref.whole main_v6) (V main_v6) ∗ pt c (Memref.whole main_v11) (V main_v11)
        ∗ pt c (Memref.whole main_arg2) (V main_arg2) ∗ pt c (Memref.whole main_arg3) (V main_arg3)) := by
  rw [BI.bigSep_eq_bigSepL_of_eq [main_v6, main_v11, main_arg2, main_arg3] (by decide) (by decide)]; rfl
theorem resPts0_eq (c : Dev nD) (V : (b : Ref sig .tc) → Buf (Elt F) ((c : Thread nD τ).loc b)) :
    (bigSep R0 (fun b => ((c : Thread nD τ).loc b) ↦{fullShare} V b) : sProp 𝕄) = iprop(pt c (Memref.whole main_v12) (V main_v12)) := by
  rw [BI.bigSep_eq_bigSepL_of_eq [main_v12] (by decide) (by decide)]; rfl
theorem ownedPts0_eq (c : Dev nD) :
    (Pipeline.owned R0 c : sProp 𝕄) = iprop(∃ f, pt c (Memref.whole main_v12) f) := by
  unfold Pipeline.owned; rw [BI.bigSep_eq_bigSepL_of_eq [main_v12] (by decide) (by decide)]; rfl
theorem scoped0_eq (c : Dev nD) :
    (Pipeline.scopedRest (Ix := Unit) (Name := ℕ) (U := Pipeline.UD sig nD τ) (Lvl := ℕ) (Val := Elt F) (cfg0.spec) c : sProp 𝕄)
      = iprop((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f)) := by
  rw [scopedRest0_eq]

/-! ## The pipeline's proof data: the region stages no window, its buffers are the invariant's -/

def dats (_ : Fin 1) (c : Dev nD) : Dat τ (Elt F) Unit ℕ (Pipeline.UD sig nD τ) ℕ cfg0 c where
  A w := w.elim0
  after w t := w.elim0
  Φ _ := Pipeline.ΦDR osem0 cfg0.spec H0 R0 (V m) c
  q _ := fullShare
  owed _ := 0

def bodyPre (c : Dev nD) (t : Fin cfg0.N) : sProp 𝕄 := iprop((dats m 0 c).Φ t.castSucc ∗ (dats m 0 c).owesAt () t.castSucc ∗ emp)
def bodyPost (c : Dev nD) (t : Fin cfg0.N) : sProp 𝕄 := iprop((dats m 0 c).Φ t.succ ∗ (dats m 0 c).owesAt () t.succ ∗ emp)

theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost
  rw [show (dats m 0 c).Φ t0_0.succ = Pipeline.ΦDR osem0 cfg0.spec H0 R0 (V m) c from rfl,
    show (dats m 0 c).Φ t0_0.castSucc = Pipeline.ΦDR osem0 cfg0.spec H0 R0 (V m) c from rfl, Pipeline.ΦDR_eq, scoped0_eq, ownSems00_eq, hbmPts0_eq, ownedPts0_eq]
  unfold Dat.owesAt Pipeline.owesWithin
  rw [show (dats m 0 c).owed t0_0.castSucc = 0 from rfl, show (dats m 0 c).owed t0_0.succ = 0 from rfl]
  iintro ⟨⟨⟨⟨%f0, H0⟩, ⟨%f1, H1⟩, ⟨%f2, H2⟩, ⟨%f3, H3⟩, ⟨%f4, H4⟩, ⟨%f5, H5⟩, ⟨%f6, H6⟩⟩, Hg, ⟨Q0, Q1, Q2, Q3, Q4, Q5, Q6, Q7, Q8, Q9, Q10, Q11, Q12, Q13, Q14, Q15, Q16⟩, ⟨A0, A1, A2, A3⟩, ⟨%fy, A4⟩⟩, ⟨%W, -, HW⟩, -⟩
  iapply ((kernelRun0 c (V m c main_v6) (V m c main_v11) (V m c main_arg2) (V m c main_arg3) fy f0 f1 f2 f3 f4 f5 f6).2 W _ trivial)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [A0]; · iexact A0
  isplitl [A1]; · iexact A1
  isplitl [A2]; · iexact A2
  isplitl [A3]; · iexact A3
  isplitl [A4]; · iexact A4
  isplitl [HW]; · iexact HW
  iintro ⟨H0, H1, H2, H3, H4, H5, H6, Q0, Q1, Q2, Q3, Q4, Q5, Q6, Q7, Q8, Q9, Q10, Q11, Q12, Q13, Q14, Q15, Q16, A0, A1, A2, A3, A4, ⟨%W', HW'⟩⟩
  isplitl [H0 H1 H2 H3 H4 H5 H6 Q0 Q1 Q2 Q3 Q4 Q5 Q6 Q7 Q8 Q9 Q10 Q11 Q12 Q13 Q14 Q15 Q16 A0 A1 A2 A3 A4 Hg]
  · isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [Hg]; · iexact Hg
    isplitl [Q0 Q1 Q2 Q3 Q4 Q5 Q6 Q7 Q8 Q9 Q10 Q11 Q12 Q13 Q14 Q15 Q16]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      isplitl [Q13]; · iexact Q13
      isplitl [Q14]; · iexact Q14
      isplitl [Q15]; · iexact Q15
      iexact Q16
    isplitl [A0 A1 A2 A3]
    · isplitl [A0]; · iexact A0
      isplitl [A1]; · iexact A1
      isplitl [A2]; · iexact A2
      iexact A3
    iexists _; iexact A4
  isplitl [HW']
  · iexists W'; isplitr; · ipureintro; exact fun _ _ => Or.inl trivial
    iexact HW'
  iempintro

theorem bigSep_none (Φ : Fin cfg0.W → sProp 𝕄) : bigSep Finset.univ Φ = iprop(emp) := by
  rw [show (Finset.univ : Finset (Fin cfg0.W)) = ∅ from rfl, bigSep_empty]; rfl

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_none, bigSep_none, defs₀_row]
  exact triple_restated (sound_body m c t) rfl .rfl fun _ => .rfl

/-! ## The run and the frame -/

set_option backward.isDefEq.respectTransparency.types false in
theorem run_main : θ_run defs (onTc (τ := τ) (main (F := F))) (s₀ m ρ)
    (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFactsD H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_T)
    (hmain := hmainD m Variants.none) (hA := fun _ w => w.elim0) (hin := fun _ => .rfl) (hout := fun _ => .rfl) (hQ' := fun _ h => h)

/-- The frame: the program ends, nothing faults, its arguments are unchanged and every semaphore counts zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c)⟩, h.2⟩) (run_main m ρ)

end Cert.KernelIdeal.Hand

end
-- ==== Proof.IProd.lean ====
module

public import proofs.«01_k».proof.Proof.IRun
public import Idealize.ShloMosaic.Lib.Pointwise
public import Idealize.ShloMosaic.Lib.Bf16PairInverse
public import Idealize.ShloMosaic.PureOps.Ideal

/-! What the kernel's sixteen scaled products are, read off the run: the landed inputs as plain functions of the four operand
    arrays, then one product per tap. -/

@[expose] public section

set_option maxRecDepth 16384

noncomputable section

namespace Cert.KernelIdeal.Hand

open Cert.KernelIdeal Cert.KernelIdeal.Gen
open Idealize.ShloMosaic Idealize.ShloMosaic.TcCoe

/-- The rows `64 p … 64 p + 63` of the padded codes. -/
def cb (fc : S1024x2560.Idx → EReal) (p : ℕ) (hp : p < 16) : Vec Ideal S64x2560 .fp8e4m3 :=
  fun j => fc (ix2 ⟨64 * p + (j 0).val, by have := (j 0).isLt; simp only [S64x2560] at this; simp at this; omega⟩ (j 1))

/-- Tap `p`'s weight matrix. -/
def wb (fw : S16x2560x1280.Idx → EReal) (p : ℕ) (hp : p < 16) : Vec Ideal S1x2560x1280 .fp8e4m3 :=
  fun j => fw (ix3 ⟨p, hp⟩ (j 1) (j 2))

/-- The first column of the rows `64 p … 64 p + 63` of the padded scales. -/
def sb (fs : S1024x128.Idx → EReal) (p : ℕ) (hp : p < 16) : Vec Ideal S64x1 .f32 :=
  fun j => fs (ix2 ⟨64 * p + (j 0).val, by have := (j 0).isLt; simp only [S64x1] at this; simp at this; omega⟩ ⟨0, by decide⟩)

/-- Tap `p`'s row of the weights' scales. -/
def wsb (fws : S16x1280.Idx → EReal) (p : ℕ) (hp : p < 16) : Vec Ideal S1x1280 .f32 :=
  fun j => fws (ix2 ⟨p, hp⟩ (j 1))

/-- Tap `p`'s scaled product. -/
def prodv (fc : S1024x2560.Idx → EReal) (fs : S1024x128.Idx → EReal) (fw : S16x2560x1280.Idx → EReal) (fws : S16x1280.Idx → EReal)
    (p : ℕ) (hp : p < 16) : FVec Ideal S64x1280 .f32 :=
  k0_pay1 (cb fc p hp) (wb fw p hp) (sb fs p hp) (wsb fws p hp)

theorem cb_read (c : Dev nD) (fc : Buf (Elt Ideal) ((c : Thread nD τ).loc main_v6)) (f2 : (Memref.whole cc0_scratch2).view.ty.Contents (Elt Ideal)) (p : ℕ) (hp : p < 16) (o : ℕ) (ho : o = 64 * p) (h) :
    View.readAt (Elt Ideal) (Memref.whole cc0_scratch2).view (Rect.unit (s := S1024x2560) ![o, 0] S64x2560.size h).toLoadRect
      (View.write (Elt Ideal) (Memref.whole cc0_scratch2).view f2 (kernelRun0.sl.dma0 c fc) Finset.univ) = cb fc p hp := by
  subst ho
  rw [show View.write (Elt Ideal) (Memref.whole cc0_scratch2).view f2 (kernelRun0.sl.dma0 c fc) Finset.univ = fc from
    View.write_whole_univ _ _ _]
  funext j
  exact congrArg fc (funext fun a => by
    refine Fin.ext ?_
    match a with
    | ⟨0, _⟩ => exact (by show 64 * p + 1 * (j 0).val = 64 * p + (j 0).val; omega)
    | ⟨1, _⟩ => exact (by show 0 + 1 * (j 1).val = (j 1).val; omega))

theorem sb_read (c : Dev nD) (fs : Buf (Elt Ideal) ((c : Thread nD τ).loc main_v11)) (f3 : (Memref.whole cc0_scratch3).view.ty.Contents (Elt Ideal)) (p : ℕ) (hp : p < 16) (o : ℕ) (ho : o = 64 * p) (h) :
    View.readAt (Elt Ideal) (Memref.whole cc0_scratch3).view (Rect.unit (s := S1024x128) ![o, 0] S64x1.size h).toLoadRect
      (View.write (Elt Ideal) (Memref.whole cc0_scratch3).view f3 (kernelRun0.sl.dma0_1 c fs) Finset.univ) = sb fs p hp := by
  subst ho
  rw [show View.write (Elt Ideal) (Memref.whole cc0_scratch3).view f3 (kernelRun0.sl.dma0_1 c fs) Finset.univ = fs from
    View.write_whole_univ _ _ _]
  funext j
  exact congrArg fs (funext fun a => by
    refine Fin.ext ?_
    match a with
    | ⟨0, _⟩ => exact (by show 64 * p + 1 * (j 0).val = 64 * p + (j 0).val; omega)
    | ⟨1, _⟩ => exact (by have := (j 1).isLt; simp only [S64x1] at this; show 0 + 1 * (j 1).val = 0; simp at this; omega))

theorem wsb_read (c : Dev nD) (fws : Buf (Elt Ideal) ((c : Thread nD τ).loc main_arg3)) (f0 : (Memref.whole cc0_scratch0).view.ty.Contents (Elt Ideal)) (p : ℕ) (hp : p < 16) (h) :
    View.readAt (Elt Ideal) (Memref.whole cc0_scratch0).view (Rect.unit (s := S16x1280) ![p, 0] S1x1280.size h).toLoadRect
      (View.write (Elt Ideal) (Memref.whole cc0_scratch0).view f0 (kernelRun0.sl.dma0_2 c fws) Finset.univ) = wsb fws p hp := by
  rw [show View.write (Elt Ideal) (Memref.whole cc0_scratch0).view f0 (kernelRun0.sl.dma0_2 c fws) Finset.univ = fws from
    View.write_whole_univ _ _ _]
  funext j
  exact congrArg fws (funext fun a => by
    refine Fin.ext ?_
    match a with
    | ⟨0, _⟩ => exact (by have := (j 0).isLt; simp only [S1x1280] at this; show p + 1 * (j 0).val = p; simp at this; omega)
    | ⟨1, _⟩ => exact (by show 0 + 1 * (j 1).val = (j 1).val; omega))

/-- Slot `q` of the weight ring. -/
abbrev slotv (q : ℕ) (h : ∀ a, (![q, 0, 0] : Fin 3 → ℕ) a + S1x2560x1280.size a ≤ S13x2560x1280.size a)
    (h' : ∀ a, (Rect.unit (s := S13x2560x1280) ![q, 0, 0] S1x2560x1280.size h).stride a = 1) (h'' : S1x2560x1280.Squeezes S2560x1280) : Memref sig .tc .vmem S2560x1280 .fp8e4m3 :=
  ((Memref.whole cc0_scratch1).slice (Rect.unit (s := S13x2560x1280) ![q, 0, 0] S1x2560x1280.size h) h').squeeze S2560x1280 h''

/-- A place of a slot, in the whole ring. -/
theorem slotv_emb (q : ℕ) (h : ∀ a, (![q, 0, 0] : Fin 3 → ℕ) a + S1x2560x1280.size a ≤ S13x2560x1280.size a)
    (h' : ∀ a, (Rect.unit (s := S13x2560x1280) ![q, 0, 0] S1x2560x1280.size h).stride a = 1) (h'' : S1x2560x1280.Squeezes S2560x1280) (x : S2560x1280.Idx) (hq : q < 13) :
    (slotv q h h' h'').view.emb x = (ix3 ⟨q, hq⟩ (x 0) (x 1) : S13x2560x1280.Idx) := by
  have he : Shape.reshapeEquiv (s := S1x2560x1280) (s' := S2560x1280) h''.numel_eq x = ix3 ⟨0, by decide⟩ (x 0) (x 1) :=
    Shape.reshapeEquiv_cons_one _ _ |>.trans (by
      funext a
      match a with | ⟨0, _⟩ => rfl | ⟨1, _⟩ => rfl | ⟨2, _⟩ => rfl)
  show (Rect.unit (s := S13x2560x1280) ![q, 0, 0] S1x2560x1280.size h).emb (Shape.reshapeEquiv (s := S1x2560x1280) (s' := S2560x1280) h''.numel_eq x) = _
  rw [he]
  refine funext fun a => Fin.ext ?_
  match a with
  | ⟨0, _⟩ => exact (by show q + 1 * 0 = q; omega)
  | ⟨1, _⟩ => exact (by show 0 + 1 * (x 0).val = (x 0).val; omega)
  | ⟨2, _⟩ => exact (by show 0 + 1 * (x 1).val = (x 1).val; omega)

/-- A slot just written is read back as what was written. -/
theorem slot_hit (fw : S16x2560x1280.Idx → EReal) (p : ℕ) (hp : p < 16) (q : ℕ) (hq : q < 13) (f : (Memref.whole cc0_scratch1).view.ty.Contents (Elt Ideal)) (w : S2560x1280.Idx → EReal)
    (h : ∀ a, (![q, 0, 0] : Fin 3 → ℕ) a + S1x2560x1280.size a ≤ S13x2560x1280.size a)
    (h' : ∀ a, (Rect.unit (s := S13x2560x1280) ![q, 0, 0] S1x2560x1280.size h).stride a = 1) (h'' : S1x2560x1280.Squeezes S2560x1280)
    (hw : ∀ x : S2560x1280.Idx, w x = fw (ix3 ⟨p, hp⟩ (x 0) (x 1))) (r) :
    View.readAt (Elt Ideal) (Memref.whole cc0_scratch1).view (Rect.unit (s := S13x2560x1280) ![q, 0, 0] S1x2560x1280.size r).toLoadRect
      (View.write (Elt Ideal) (slotv q h h' h'').view f w Finset.univ) = wb fw p hp := by
  funext j
  have e : (Rect.unit (s := S13x2560x1280) ![q, 0, 0] S1x2560x1280.size r).toLoadRect.idx j = (slotv q h h' h'').view.emb (ix2 (j 1) (j 2)) := by
    rw [slotv_emb q h h' h'' _ hq]
    refine funext fun a => Fin.ext ?_
    match a with
    | ⟨0, _⟩ => exact (by have := (j 0).isLt; simp only [S1x2560x1280] at this; show q + 1 * (j 0).val = q; simp at this; omega)
    | ⟨1, _⟩ => exact (by show 0 + 1 * (j 1).val = (j 1).val; omega)
    | ⟨2, _⟩ => exact (by show 0 + 1 * (j 2).val = (j 2).val; omega)
  show (View.write (Elt Ideal) (slotv q h h' h'').view f w Finset.univ) ((Rect.unit (s := S13x2560x1280) ![q, 0, 0] S1x2560x1280.size r).toLoadRect.idx j) = _
  rw [e]
  exact (View.write_emb_of_mem (v := (slotv q h h' h'').view) f w (Finset.mem_univ _)).trans (hw _)

/-- A slot is read the same before and after another is written. -/
theorem slot_miss (q q' : ℕ) (hq : q < 13) (hq' : q' < 13) (hne : q ≠ q') (f : (Memref.whole cc0_scratch1).view.ty.Contents (Elt Ideal)) (w : S2560x1280.Idx → EReal)
    (h : ∀ a, (![q', 0, 0] : Fin 3 → ℕ) a + S1x2560x1280.size a ≤ S13x2560x1280.size a)
    (h' : ∀ a, (Rect.unit (s := S13x2560x1280) ![q', 0, 0] S1x2560x1280.size h).stride a = 1) (h'' : S1x2560x1280.Squeezes S2560x1280) (r) :
    View.readAt (Elt Ideal) (Memref.whole cc0_scratch1).view (Rect.unit (s := S13x2560x1280) ![q, 0, 0] S1x2560x1280.size r).toLoadRect
      (View.write (Elt Ideal) (slotv q' h h' h'').view f w Finset.univ)
    = View.readAt (Elt Ideal) (Memref.whole cc0_scratch1).view (Rect.unit (s := S13x2560x1280) ![q, 0, 0] S1x2560x1280.size r).toLoadRect f := by
  funext j
  refine View.write_of_not_mem (v := (slotv q' h h' h'').view) f w Finset.univ ?_
  intro hm
  obtain ⟨x, -, hx⟩ := Finset.mem_map.mp hm
  have h0 := congrFun ((slotv_emb q' h h' h'' x hq').symm.trans hx) (0 : Fin 3)
  have h1 : q' = q + 1 * (j 0).val := congrArg Fin.val h0
  have := (j 0).isLt
  simp only [S1x2560x1280] at this
  simp at this
  omega

end Cert.KernelIdeal.Hand

end
-- ==== Proof.IAcc.lean ====
module

public import proofs.«01_k».proof.Proof.IProd
public import Idealize.ShloMosaic.Lib.Pointwise
public import Idealize.ShloMosaic.Lib.Bf16PairInverse
public import Idealize.ShloMosaic.PureOps.Ideal

@[expose] public section

set_option maxRecDepth 16384

noncomputable section

namespace Cert.KernelIdeal.Hand

open Cert.KernelIdeal Cert.KernelIdeal.Gen
open Idealize.ShloMosaic Idealize.ShloMosaic.TcCoe

/-! The four accumulators: each is the flat signed sum, in tap order, of the products it takes. -/

/-- A list of stores into the accumulators. -/
abbrev AccL := List (View.Piece (Elt Ideal) S4x64x1280 .f32)

/-- Accumulator `k` after the stores of `L`. -/
def slab (L : AccL) (k : ℕ) (hk : k < 4) : FVec Ideal S64x1280 .f32 :=
  fun i => (Memref.whole cc0_scratch4).view.read (Elt Ideal)
    ((Memref.whole cc0_scratch4).view.writes (Elt Ideal) (Memref.whole cc0_scratch4).view.junk L) (ix3 ⟨k, hk⟩ (i 0) (i 1) : S4x64x1280.Idx)

/-- Accumulator `k` as a block of the four. -/
abbrev accB (k : ℕ) (h : ∀ a, (![k, 0, 0] : Fin 3 → ℕ) a + S1x64x1280.size a ≤ S4x64x1280.size a) : Rect S4x64x1280 := Rect.unit (s := S4x64x1280) ![k, 0, 0] S1x64x1280.size h

theorem accB_emb (k : ℕ) (hk : k < 4) (h) (x : S1x64x1280.Idx) : (accB k h).emb x = (ix3 ⟨k, hk⟩ (x 1) (x 2) : S4x64x1280.Idx) := by
  refine funext fun a => Fin.ext ?_
  match a with
  | ⟨0, _⟩ => exact (by have := (x 0).isLt; simp only [S1x64x1280] at this; show k + 1 * (x 0).val = k; simp at this; omega)
  | ⟨1, _⟩ => exact (by show 0 + 1 * (x 1).val = (x 1).val; omega)
  | ⟨2, _⟩ => exact (by show 0 + 1 * (x 2).val = (x 2).val; omega)

theorem cast_up (x : FVec Ideal S64x1280 .f32) (h) (a : Fin 64) (b : Fin 1280) :
    shapeCast S1x64x1280 x h (ix3 ⟨0, by decide⟩ a b) = x (ix2 a b) := by
  pointwise

theorem cast_down (x : S1x64x1280.Idx → EReal) (h) (a : Fin 64) (b : Fin 1280) :
    shapeCast S64x1280 x h (ix2 a b) = x (ix3 ⟨0, by decide⟩ a b) := by
  pointwise

theorem slab_hit (k : ℕ) (hk : k < 4) (L : AccL) (x : FVec Ideal S64x1280 .f32) (h) (h') :
    slab (⟨accB k h, shapeCast S1x64x1280 x h'⟩ :: L) k hk = x := by
  funext i
  have e := accB_emb k hk h (ix3 ⟨0, by decide⟩ (i 0) (i 1))
  unfold slab
  rw [show (ix3 ⟨k, hk⟩ (i 0) (i 1) : S4x64x1280.Idx) = _ from e.symm]
  refine (View.read_writes_cons_emb _ _ _ _ _ _).trans ?_
  refine (cast_up x h' (i 0) (i 1)).trans ?_
  exact congrArg x (eq_ix2 i).symm

theorem slab_miss (k k' : ℕ) (hk : k < 4) (hne : k ≠ k') (L : AccL) (w : S1x64x1280.Idx → EReal) (h) :
    slab ((⟨accB k' h, w⟩ : View.Piece (Elt Ideal) S4x64x1280 .f32) :: L) k hk = slab L k hk := by
  funext i
  refine View.read_writes_cons_miss_of_axis _ _ _ _ _ (0 : Fin 3) k' 1 rfl rfl rfl ?_
  show k < k' ∨ k' + 1 ≤ k
  omega

theorem slab_read (k : ℕ) (hk : k < 4) (L : AccL) (h) (h') :
    shapeCast S64x1280 ((Memref.whole cc0_scratch4).view.readCov L (accB k h).toLoadRect) h' = slab L k hk := by
  funext i
  rw [show i = ix2 (i 0) (i 1) from eq_ix2 i]
  refine (cast_down _ h' (i 0) (i 1)).trans ?_
  exact congrArg _ (accB_emb k hk h (ix3 ⟨0, by decide⟩ (i 0) (i 1)))

/-- One store of an accumulator: what it held plus the product. -/
theorem slab_add (k : ℕ) (hk : k < 4) (L : AccL) (Y X P : FVec Ideal S64x1280 .f32) (h) (h₁ h₂) (hX : slab L k hk = X) (hY : Y = P) :
    slab (⟨accB k h, shapeCast S1x64x1280
      (addf (shapeCast S64x1280 ((Memref.whole cc0_scratch4).view.readCov L (accB k h).toLoadRect) h₁) Y) h₂⟩ :: L) k hk = addf X P := by
  rw [slab_hit, slab_read k hk, hX, hY]

/-- One store of an accumulator: what it held minus the product. -/
theorem slab_sub (k : ℕ) (hk : k < 4) (L : AccL) (Y X P : FVec Ideal S64x1280 .f32) (h) (h₁ h₂) (hX : slab L k hk = X) (hY : Y = P) :
    slab (⟨accB k h, shapeCast S1x64x1280
      (subf (shapeCast S64x1280 ((Memref.whole cc0_scratch4).view.readCov L (accB k h).toLoadRect) h₁) Y) h₂⟩ :: L) k hk = subf X P := by
  rw [slab_hit, slab_read k hk, hX, hY]

/-- An accumulator's first store: the product. -/
theorem slab_init (k : ℕ) (hk : k < 4) (L : AccL) (Y P : FVec Ideal S64x1280 .f32) (h) (h₂) (hY : Y = P) :
    slab (⟨accB k h, shapeCast S1x64x1280 Y h₂⟩ :: L) k hk = P := by
  rw [slab_hit, hY]

theorem prod_eq {fc : S1024x2560.Idx → EReal} {fs : S1024x128.Idx → EReal} {fw : S16x2560x1280.Idx → EReal} {fws : S16x1280.Idx → EReal}
    {p : ℕ} {hp : p < 16} {C W S Ws} (hC : C = cb fc p hp) (hW : W = wb fw p hp) (hS : S = sb fs p hp) (hWs : Ws = wsb fws p hp) :
    k0_pay1 C W S Ws = prodv fc fs fw fws p hp := by
  subst hC hW hS hWs; rfl

/-- A slot just filled from the weights is read back as the tap's matrix. -/
theorem slot_land (fw : S16x2560x1280.Idx → EReal) (p : ℕ) (hp : p < 16) (q : ℕ) (hq : q < 13) (f : (Memref.whole cc0_scratch1).view.ty.Contents (Elt Ideal))
    (h h' h'' r) (k : ∀ a, (![p, 0, 0] : Fin 3 → ℕ) a + S1x2560x1280.size a ≤ S16x2560x1280.size a) (k') (k'' : S1x2560x1280.Squeezes S2560x1280) :
    View.readAt (Elt Ideal) (Memref.whole cc0_scratch1).view (Rect.unit (s := S13x2560x1280) ![q, 0, 0] S1x2560x1280.size r).toLoadRect
      (View.write (Elt Ideal) (slotv q h h' h'').view f (ReadAs.same.apply (View.read (Elt Ideal)
        (((Memref.whole main_arg2).slice (Rect.unit (s := S16x2560x1280) ![p, 0, 0] S1x2560x1280.size k) k').squeeze S2560x1280 k'').view fw)) Finset.univ) = wb fw p hp := by
  refine slot_hit fw p hp q hq f _ h h' h'' (fun x => ?_) r
  have he : Shape.reshapeEquiv (s := S1x2560x1280) (s' := S2560x1280) k''.numel_eq x = ix3 ⟨0, by decide⟩ (x 0) (x 1) :=
    Shape.reshapeEquiv_cons_one _ _ |>.trans (by
      funext a
      match a with | ⟨0, _⟩ => rfl | ⟨1, _⟩ => rfl | ⟨2, _⟩ => rfl)
  show fw ((Rect.unit (s := S16x2560x1280) ![p, 0, 0] S1x2560x1280.size k).emb (Shape.reshapeEquiv (s := S1x2560x1280) (s' := S2560x1280) k''.numel_eq x)) = _
  rw [he]
  refine congrArg fw (funext fun a => Fin.ext ?_)
  match a with
  | ⟨0, _⟩ => exact (by show p + 1 * 0 = p; omega)
  | ⟨1, _⟩ => exact (by show 0 + 1 * (x 0).val = (x 0).val; omega)
  | ⟨2, _⟩ => exact (by show 0 + 1 * (x 1).val = (x 1).val; omega)

section
variable (fc : S1024x2560.Idx → EReal) (fs : S1024x128.Idx → EReal) (fw : S16x2560x1280.Idx → EReal) (fws : S16x1280.Idx → EReal)
/-- The accumulator of the even output rows and even output columns. -/
def A0 : FVec Ideal S64x1280 .f32 :=
  addf (addf (addf (addf (addf (addf (addf (addf (prodv fc fs fw fws 0 (by decide)) (prodv fc fs fw fws 1 (by decide))) (prodv fc fs fw fws 2 (by decide))) (prodv fc fs fw fws 4 (by decide))) (prodv fc fs fw fws 5 (by decide)))
    (prodv fc fs fw fws 6 (by decide))) (prodv fc fs fw fws 8 (by decide))) (prodv fc fs fw fws 9 (by decide))) (prodv fc fs fw fws 10 (by decide))

/-- The accumulator of the even output rows and odd output columns. -/
def A1 : FVec Ideal S64x1280 .f32 :=
  subf (subf (addf (subf (subf (addf (subf (subf (prodv fc fs fw fws 1 (by decide)) (prodv fc fs fw fws 2 (by decide))) (prodv fc fs fw fws 3 (by decide))) (prodv fc fs fw fws 5 (by decide))) (prodv fc fs fw fws 6 (by decide)))
    (prodv fc fs fw fws 7 (by decide))) (prodv fc fs fw fws 9 (by decide))) (prodv fc fs fw fws 10 (by decide))) (prodv fc fs fw fws 11 (by decide))

/-- The accumulator of the odd output rows and even output columns. -/
def A2 : FVec Ideal S64x1280 .f32 :=
  subf (subf (subf (subf (subf (subf (addf (addf (prodv fc fs fw fws 4 (by decide)) (prodv fc fs fw fws 5 (by decide))) (prodv fc fs fw fws 6 (by decide))) (prodv fc fs fw fws 8 (by decide))) (prodv fc fs fw fws 9 (by decide)))
    (prodv fc fs fw fws 10 (by decide))) (prodv fc fs fw fws 12 (by decide))) (prodv fc fs fw fws 13 (by decide))) (prodv fc fs fw fws 14 (by decide))

/-- The accumulator of the odd output rows and odd output columns. -/
def A3 : FVec Ideal S64x1280 .f32 :=
  addf (addf (subf (addf (addf (subf (subf (subf (prodv fc fs fw fws 5 (by decide)) (prodv fc fs fw fws 6 (by decide))) (prodv fc fs fw fws 7 (by decide))) (prodv fc fs fw fws 9 (by decide))) (prodv fc fs fw fws 10 (by decide)))
    (prodv fc fs fw fws 11 (by decide))) (prodv fc fs fw fws 13 (by decide))) (prodv fc fs fw fws 14 (by decide))) (prodv fc fs fw fws 15 (by decide))
end

section
variable (c : Dev nD) (fc : Buf (Elt Ideal) ((c : Thread nD τ).loc main_v6)) (fs : Buf (Elt Ideal) ((c : Thread nD τ).loc main_v11))
  (fw : Buf (Elt Ideal) ((c : Thread nD τ).loc main_arg2)) (fws : Buf (Elt Ideal) ((c : Thread nD τ).loc main_arg3))
  (f0 : Buf (Elt Ideal) ((c : Thread nD τ).loc cc0_scratch0)) (f1 : Buf (Elt Ideal) ((c : Thread nD τ).loc cc0_scratch1))
  (f2 : Buf (Elt Ideal) ((c : Thread nD τ).loc cc0_scratch2)) (f3 : Buf (Elt Ideal) ((c : Thread nD τ).loc cc0_scratch3))

/-- What the accumulator of the even output rows and even output columns ends with. -/
theorem acc0 : slab (kernelRun0.sl.H4_30 c fc fs fw fws f0 f1 f2 f3) 0 (by decide) = A0 fc fs fw fws := by
  repeat refine (slab_miss 0 _ (by decide) (by decide) _ _ _).trans ?_
  refine slab_add 0 (by decide) _ _ _ _ _ _ _ ?_ ?_
  repeat refine (slab_miss 0 _ (by decide) (by decide) _ _ _).trans ?_
  refine slab_add 0 (by decide) _ _ _ _ _ _ _ ?_ ?_
  repeat refine (slab_miss 0 _ (by decide) (by decide) _ _ _).trans ?_
  refine slab_add 0 (by decide) _ _ _ _ _ _ _ ?_ ?_
  repeat refine (slab_miss 0 _ (by decide) (by decide) _ _ _).trans ?_
  refine slab_add 0 (by decide) _ _ _ _ _ _ _ ?_ ?_
  repeat refine (slab_miss 0 _ (by decide) (by decide) _ _ _).trans ?_
  refine slab_add 0 (by decide) _ _ _ _ _ _ _ ?_ ?_
  repeat refine (slab_miss 0 _ (by decide) (by decide) _ _ _).trans ?_
  refine slab_add 0 (by decide) _ _ _ _ _ _ _ ?_ ?_
  repeat refine (slab_miss 0 _ (by decide) (by decide) _ _ _).trans ?_
  refine slab_add 0 (by decide) _ _ _ _ _ _ _ ?_ ?_
  repeat refine (slab_miss 0 _ (by decide) (by decide) _ _ _).trans ?_
  refine slab_add 0 (by decide) _ _ _ _ _ _ _ ?_ ?_
  repeat refine (slab_miss 0 _ (by decide) (by decide) _ _ _).trans ?_
  refine slab_init 0 (by decide) _ _ _ _ _ ?_
  all_goals refine prod_eq ?_ ?_ ?_ ?_
  all_goals first
    | exact cb_read c fc f2 _ _ _ (by decide) _
    | exact sb_read c fs f3 _ _ _ (by decide) _
    | exact wsb_read c fws f0 _ _ _
    | (repeat refine (slot_miss _ _ (by decide) (by decide) (by decide) _ _ _ _ _ _).trans ?_
       exact slot_land fw _ (by decide) _ (by decide) _ _ _ _ _ _ _ _)

/-- What the accumulator of the even output rows and odd output columns ends with. -/
theorem acc1 : slab (kernelRun0.sl.H4_30 c fc fs fw fws f0 f1 f2 f3) 1 (by decide) = A1 fc fs fw fws := by
  repeat refine (slab_miss 1 _ (by decide) (by decide) _ _ _).trans ?_
  refine slab_sub 1 (by decide) _ _ _ _ _ _ _ ?_ ?_
  repeat refine (slab_miss 1 _ (by decide) (by decide) _ _ _).trans ?_
  refine slab_sub 1 (by decide) _ _ _ _ _ _ _ ?_ ?_
  repeat refine (slab_miss 1 _ (by decide) (by decide) _ _ _).trans ?_
  refine slab_add 1 (by decide) _ _ _ _ _ _ _ ?_ ?_
  repeat refine (slab_miss 1 _ (by decide) (by decide) _ _ _).trans ?_
  refine slab_sub 1 (by decide) _ _ _ _ _ _ _ ?_ ?_
  repeat refine (slab_miss 1 _ (by decide) (by decide) _ _ _).trans ?_
  refine slab_sub 1 (by decide) _ _ _ _ _ _ _ ?_ ?_
  repeat refine (slab_miss 1 _ (by decide) (by decide) _ _ _).trans ?_
  refine slab_add 1 (by decide) _ _ _ _ _ _ _ ?_ ?_
  repeat refine (slab_miss 1 _ (by decide) (by decide) _ _ _).trans ?_
  refine slab_sub 1 (by decide) _ _ _ _ _ _ _ ?_ ?_
  repeat refine (slab_miss 1 _ (by decide) (by decide) _ _ _).trans ?_
  refine slab_sub 1 (by decide) _ _ _ _ _ _ _ ?_ ?_
  repeat refine (slab_miss 1 _ (by decide) (by decide) _ _ _).trans ?_
  refine slab_init 1 (by decide) _ _ _ _ _ ?_
  all_goals refine prod_eq ?_ ?_ ?_ ?_
  all_goals first
    | exact cb_read c fc f2 _ _ _ (by decide) _
    | exact sb_read c fs f3 _ _ _ (by decide) _
    | exact wsb_read c fws f0 _ _ _
    | (repeat refine (slot_miss _ _ (by decide) (by decide) (by decide) _ _ _ _ _ _).trans ?_
       exact slot_land fw _ (by decide) _ (by decide) _ _ _ _ _ _ _ _)

/-- What the accumulator of the odd output rows and even output columns ends with. -/
theorem acc2 : slab (kernelRun0.sl.H4_36 c fc fs fw fws f0 f1 f2 f3) 2 (by decide) = A2 fc fs fw fws := by
  repeat refine (slab_miss 2 _ (by decide) (by decide) _ _ _).trans ?_
  refine slab_sub 2 (by decide) _ _ _ _ _ _ _ ?_ ?_
  repeat refine (slab_miss 2 _ (by decide) (by decide) _ _ _).trans ?_
  refine slab_sub 2 (by decide) _ _ _ _ _ _ _ ?_ ?_
  repeat refine (slab_miss 2 _ (by decide) (by decide) _ _ _).trans ?_
  refine slab_sub 2 (by decide) _ _ _ _ _ _ _ ?_ ?_
  repeat refine (slab_miss 2 _ (by decide) (by decide) _ _ _).trans ?_
  refine slab_sub 2 (by decide) _ _ _ _ _ _ _ ?_ ?_
  repeat refine (slab_miss 2 _ (by decide) (by decide) _ _ _).trans ?_
  refine slab_sub 2 (by decide) _ _ _ _ _ _ _ ?_ ?_
  repeat refine (slab_miss 2 _ (by decide) (by decide) _ _ _).trans ?_
  refine slab_sub 2 (by decide) _ _ _ _ _ _ _ ?_ ?_
  repeat refine (slab_miss 2 _ (by decide) (by decide) _ _ _).trans ?_
  refine slab_add 2 (by decide) _ _ _ _ _ _ _ ?_ ?_
  repeat refine (slab_miss 2 _ (by decide) (by decide) _ _ _).trans ?_
  refine slab_add 2 (by decide) _ _ _ _ _ _ _ ?_ ?_
  repeat refine (slab_miss 2 _ (by decide) (by decide) _ _ _).trans ?_
  refine slab_init 2 (by decide) _ _ _ _ _ ?_
  all_goals first
    | refine prod_eq ?_ ?_ ?_ ?_
    | refine (show k0_pay1 (kernelRun0.sl.v728 c fc f2) (kernelRun0.sl.v729 c fw f1) (kernelRun0.sl.v732 c fs f3) (kernelRun0.sl.v735 c fws f0) = _ from prod_eq ?_ ?_ ?_ ?_)
  all_goals first
    | exact cb_read c fc f2 _ _ _ (by decide) _
    | exact sb_read c fs f3 _ _ _ (by decide) _
    | exact wsb_read c fws f0 _ _ _
    | (repeat refine (slot_miss _ _ (by decide) (by decide) (by decide) _ _ _ _ _ _).trans ?_
       exact slot_land fw _ (by decide) _ (by decide) _ _ _ _ _ _ _ _)

/-- What the accumulator of the odd output rows and odd output columns ends with. -/
theorem acc3 : slab (kernelRun0.sl.H4_36 c fc fs fw fws f0 f1 f2 f3) 3 (by decide) = A3 fc fs fw fws := by
  repeat refine (slab_miss 3 _ (by decide) (by decide) _ _ _).trans ?_
  refine slab_add 3 (by decide) _ _ _ _ _ _ _ ?_ ?_
  repeat refine (slab_miss 3 _ (by decide) (by decide) _ _ _).trans ?_
  refine slab_add 3 (by decide) _ _ _ _ _ _ _ ?_ ?_
  repeat refine (slab_miss 3 _ (by decide) (by decide) _ _ _).trans ?_
  refine slab_sub 3 (by decide) _ _ _ _ _ _ _ ?_ ?_
  repeat refine (slab_miss 3 _ (by decide) (by decide) _ _ _).trans ?_
  refine slab_add 3 (by decide) _ _ _ _ _ _ _ ?_ ?_
  repeat refine (slab_miss 3 _ (by decide) (by decide) _ _ _).trans ?_
  refine slab_add 3 (by decide) _ _ _ _ _ _ _ ?_ ?_
  repeat refine (slab_miss 3 _ (by decide) (by decide) _ _ _).trans ?_
  refine slab_sub 3 (by decide) _ _ _ _ _ _ _ ?_ ?_
  repeat refine (slab_miss 3 _ (by decide) (by decide) _ _ _).trans ?_
  refine slab_sub 3 (by decide) _ _ _ _ _ _ _ ?_ ?_
  repeat refine (slab_miss 3 _ (by decide) (by decide) _ _ _).trans ?_
  refine slab_sub 3 (by decide) _ _ _ _ _ _ _ ?_ ?_
  repeat refine (slab_miss 3 _ (by decide) (by decide) _ _ _).trans ?_
  refine slab_init 3 (by decide) _ _ _ _ _ ?_
  all_goals refine prod_eq ?_ ?_ ?_ ?_
  all_goals first
    | exact cb_read c fc f2 _ _ _ (by decide) _
    | exact sb_read c fs f3 _ _ _ (by decide) _
    | exact wsb_read c fws f0 _ _ _
    | (repeat refine (slot_miss _ _ (by decide) (by decide) (by decide) _ _ _ _ _ _).trans ?_
       exact slot_land fw _ (by decide) _ (by decide) _ _ _ _ _ _ _ _)

end

end Cert.KernelIdeal.Hand

end
-- ==== Proof.IYp.lean ====
module

public import proofs.«01_k».proof.Proof.IAcc
public import Idealize.ShloMosaic.Lib.Pointwise
public import Idealize.ShloMosaic.Lib.Bf16PairInverse
public import Idealize.ShloMosaic.PureOps.Ideal

@[expose] public section

set_option maxRecDepth 16384

noncomputable section

namespace Cert.KernelIdeal.Hand

open Cert.KernelIdeal Cert.KernelIdeal.Gen
open Idealize.ShloMosaic Idealize.ShloMosaic.TcCoe

/-! The packed halves: the word buffer between an accumulator and the output, as pairs of bf16 rows. -/

/-- The pairs of rows that the halves of `A` make, in tiles of 128 columns. -/
def ypv (A : FVec Ideal S64x1280 .f32) : S10x32x2x128.Idx → EReal :=
  fun i => A (ix2 ⟨32 * (i 2).val + (i 1).val, by
      have h1 : (i 1).val < 32 := (i 1).isLt
      have h2 : (i 2).val < 2 := (i 2).isLt
      omega⟩ ⟨128 * (i 0).val + (i 3).val, by
      have h1 : (i 0).val < 10 := (i 0).isLt
      have h2 : (i 3).val < 128 := (i 3).isLt
      omega⟩)

/-- Half of an accumulator, as read. -/
theorem half_read (A : FVec Ideal S64x1280 .f32) (k : ℕ) (hk : k < 4) (a : ℕ) (ha : a + 32 ≤ 64) (L : AccL) (hA : slab L k hk = A)
    (h : ∀ x, (![k, a, 0] : Fin 3 → ℕ) x + S1x32x1280.size x ≤ S4x64x1280.size x) (h') (h'') (q : Fin 32) (l : Fin 1280) :
    (truncf .bf16 (shapeCast S32x1280 ((Memref.whole cc0_scratch4).view.readCov L (Rect.unit (s := S4x64x1280) ![k, a, 0] S1x32x1280.size h).toLoadRect) h' : FVec Ideal S32x1280 .f32) h'' : FVec Ideal S32x1280 .bf16)
      (ix2 q l) = A (ix2 ⟨a + q.val, by omega⟩ l) := by
  subst hA
  have e1 : ∀ x : S1x32x1280.Idx → EReal, shapeCast S32x1280 x h' (ix2 q l) = x (ix3 ⟨0, by decide⟩ q l) := fun x => by pointwise
  show shapeCast S32x1280 ((Memref.whole cc0_scratch4).view.readCov L (Rect.unit (s := S4x64x1280) ![k, a, 0] S1x32x1280.size h).toLoadRect) h' (ix2 q l) = _
  refine (e1 _).trans ?_
  refine congrArg _ (show (Rect.unit (s := S4x64x1280) ![k, a, 0] S1x32x1280.size h).toLoadRect.idx (ix3 ⟨0, by decide⟩ q l) = _ from funext fun x => Fin.ext ?_)
  match x with
  | ⟨0, _⟩ => exact (by show k + 1 * 0 = k; omega)
  | ⟨1, _⟩ => exact (by show a + 1 * q.val = a + q.val; omega)
  | ⟨2, _⟩ => exact (by show 0 + 1 * l.val = l.val; omega)

theorem pack_lo (lo hi : S32x1280.Idx → EReal) (o : ℕ) (ho : o + 128 ≤ 1280) (e1 e1' : S32x1280.Slices ![0, o] S32x128) (e2 e2' e3 e3' e5) (q : Fin 32) (l : Fin 128) :
    interleaveRows S1x32x2x128 (shapeCast S1x32x1x128 (shapeCast S1x32x128 (extractStridedSlice S32x128 ![0, o] lo e1) e2) e3)
      (shapeCast S1x32x1x128 (shapeCast S1x32x128 (extractStridedSlice S32x128 ![0, o] hi e1') e2') e3') e5 (ix4 ⟨0, by decide⟩ q ⟨0, by decide⟩ l)
    = lo (ix2 q ⟨o + l.val, by omega⟩) := by
  pointwise

theorem pack_hi (lo hi : S32x1280.Idx → EReal) (o : ℕ) (ho : o + 128 ≤ 1280) (e1 e1' : S32x1280.Slices ![0, o] S32x128) (e2 e2' e3 e3' e5) (q : Fin 32) (l : Fin 128) :
    interleaveRows S1x32x2x128 (shapeCast S1x32x1x128 (shapeCast S1x32x128 (extractStridedSlice S32x128 ![0, o] lo e1) e2) e3)
      (shapeCast S1x32x1x128 (shapeCast S1x32x128 (extractStridedSlice S32x128 ![0, o] hi e1') e2') e3') e5 (ix4 ⟨0, by decide⟩ q ⟨1, by decide⟩ l)
    = hi (ix2 q ⟨o + l.val, by omega⟩) := by
  pointwise

/-- A list of stores into the word buffer. -/
abbrev YpL := List (View.Piece (Elt Ideal) S10x32x2x128 .bf16)

/-- The word buffer after the stores of `L`. -/
def ypr (L : YpL) : S10x32x2x128.Idx → EReal :=
  (Memref.whole cc0_scratch5).view.read (Elt Ideal) ((Memref.whole cc0_scratch5).view.writes (Elt Ideal) (Memref.whole cc0_scratch5).view.junk L)

/-- One tile stored: it holds the halves' tile, so only the other tiles are still asked of the stores before. -/
theorem yp_cons (A : FVec Ideal S64x1280 .f32) (lo hi : S32x1280.Idx → EReal)
    (hlo : ∀ (q : Fin 32) (l : Fin 1280), lo (ix2 q l) = A (ix2 ⟨0 + q.val, by omega⟩ l))
    (hhi : ∀ (q : Fin 32) (l : Fin 1280), hi (ix2 q l) = A (ix2 ⟨32 + q.val, by omega⟩ l))
    (t : ℕ) (ht : t < 10) (o : ℕ) (ho : o = 128 * t) (L : YpL) (h : ∀ x, (![t, 0, 0, 0] : Fin 4 → ℕ) x + S1x32x2x128.size x ≤ S10x32x2x128.size x)
    (e1 e1' : S32x1280.Slices ![0, o] S32x128) (e2 e2' e3 e3' e5) (i : S10x32x2x128.Idx) (k : (i 0).val ≠ t → ypr L i = ypv A i) :
    ypr (⟨Rect.unit (s := S10x32x2x128) ![t, 0, 0, 0] S1x32x2x128.size h, interleaveRows S1x32x2x128
      (shapeCast S1x32x1x128 (shapeCast S1x32x128 (extractStridedSlice S32x128 ![0, o] lo e1) e2) e3)
      (shapeCast S1x32x1x128 (shapeCast S1x32x128 (extractStridedSlice S32x128 ![0, o] hi e1') e2') e3') e5⟩ :: L) i = ypv A i := by
  subst ho
  by_cases hi0 : (i 0).val = t
  · have e : i = (Rect.unit (s := S10x32x2x128) ![t, 0, 0, 0] S1x32x2x128.size h).emb (ix4 ⟨0, by decide⟩ (i 1) (i 2) (i 3)) := by
      refine funext fun x => Fin.ext ?_
      match x with
      | ⟨0, _⟩ => exact (by show (i 0).val = t + 1 * 0; omega)
      | ⟨1, _⟩ => exact (by show (i 1).val = 0 + 1 * (i 1).val; omega)
      | ⟨2, _⟩ => exact (by show (i 2).val = 0 + 1 * (i 2).val; omega)
      | ⟨3, _⟩ => exact (by show (i 3).val = 0 + 1 * (i 3).val; omega)
    have h2 : (i 2).val < 2 := (i 2).isLt
    unfold ypr
    conv_lhs => rw [e]
    refine (View.read_writes_cons_emb _ _ _ _ _ _).trans ?_
    rcases (show (i 2).val = 0 ∨ (i 2).val = 1 by omega) with h2 | h2
    · rw [show i 2 = (⟨0, by decide⟩ : Fin 2) from Fin.ext h2]
      refine (pack_lo lo hi (128 * t) (by omega) e1 e1' e2 e2' e3 e3' e5 (i 1) (i 3)).trans ?_
      refine (hlo _ _).trans ?_
      exact congrArg A (congrArg₂ ix2 (Fin.ext (by show 0 + (i 1).val = 32 * (i 2).val + (i 1).val; omega)) (Fin.ext (by show 128 * t + (i 3).val = 128 * (i 0).val + (i 3).val; omega)))
    · rw [show i 2 = (⟨1, by decide⟩ : Fin 2) from Fin.ext h2]
      refine (pack_hi lo hi (128 * t) (by omega) e1 e1' e2 e2' e3 e3' e5 (i 1) (i 3)).trans ?_
      refine (hhi _ _).trans ?_
      exact congrArg A (congrArg₂ ix2 (Fin.ext (by show 32 + (i 1).val = 32 * (i 2).val + (i 1).val; omega)) (Fin.ext (by show 128 * t + (i 3).val = 128 * (i 0).val + (i 3).val; omega)))
  · refine Eq.trans ?_ (k hi0)
    refine View.read_writes_cons_miss_of_axis _ _ _ _ _ (0 : Fin 4) t 1 rfl rfl rfl ?_
    show (i 0).val < t ∨ t + 1 ≤ (i 0).val
    omega

section
variable (c : Dev nD) (fc : Buf (Elt Ideal) ((c : Thread nD τ).loc main_v6)) (fs : Buf (Elt Ideal) ((c : Thread nD τ).loc main_v11))
  (fw : Buf (Elt Ideal) ((c : Thread nD τ).loc main_arg2)) (fws : Buf (Elt Ideal) ((c : Thread nD τ).loc main_arg3))
  (f0 : Buf (Elt Ideal) ((c : Thread nD τ).loc cc0_scratch0)) (f1 : Buf (Elt Ideal) ((c : Thread nD τ).loc cc0_scratch1))
  (f2 : Buf (Elt Ideal) ((c : Thread nD τ).loc cc0_scratch2)) (f3 : Buf (Elt Ideal) ((c : Thread nD τ).loc cc0_scratch3))

/-- The word buffer once accumulator 0 is packed. -/
theorem yp0 (i : S10x32x2x128.Idx) : ypr (kernelRun0.sl.H5_10 c fc fs fw fws f0 f1 f2 f3) i = ypv (A0 fc fs fw fws) i := by
  have hlo := half_read _ 0 (by decide) 0 (by decide) _ (acc0 c fc fs fw fws f0 f1 f2 f3) inb_S4x64x1280_S1x32x1280_0_0_0 shapeCasts_S1x32x1280_S32x1280 (by decide)
  have hhi := half_read _ 0 (by decide) 32 (by decide) _ (acc0 c fc fs fw fws f0 f1 f2 f3) inb_S4x64x1280_S1x32x1280_0_32_0 shapeCasts_S1x32x1280_S32x1280 (by decide)
  iterate 10
    refine yp_cons _ _ _ hlo hhi _ (by decide) _ (by decide) _ _ (by decide) (by decide)
      shapeCasts_S32x128_S1x32x128 shapeCasts_S32x128_S1x32x128 shapeCasts_S1x32x128_S1x32x1x128 shapeCasts_S1x32x128_S1x32x1x128
      bitcasts_S1x32x2x128_w16_S1x32x1x128_w32 i ?_
    intro
  have h0 : (i 0).val < 10 := (i 0).isLt
  omega

/-- The word buffer once accumulator 1 is packed. -/
theorem yp1 (i : S10x32x2x128.Idx) : ypr (kernelRun0.sl.H5_20 c fc fs fw fws f0 f1 f2 f3) i = ypv (A1 fc fs fw fws) i := by
  have hlo := half_read _ 1 (by decide) 0 (by decide) _ (acc1 c fc fs fw fws f0 f1 f2 f3) inb_S4x64x1280_S1x32x1280_1_0_0 shapeCasts_S1x32x1280_S32x1280 (by decide)
  have hhi := half_read _ 1 (by decide) 32 (by decide) _ (acc1 c fc fs fw fws f0 f1 f2 f3) inb_S4x64x1280_S1x32x1280_1_32_0 shapeCasts_S1x32x1280_S32x1280 (by decide)
  iterate 10
    refine yp_cons _ _ _ hlo hhi _ (by decide) _ (by decide) _ _ (by decide) (by decide)
      shapeCasts_S32x128_S1x32x128 shapeCasts_S32x128_S1x32x128 shapeCasts_S1x32x128_S1x32x1x128 shapeCasts_S1x32x128_S1x32x1x128
      bitcasts_S1x32x2x128_w16_S1x32x1x128_w32 i ?_
    intro
  have h0 : (i 0).val < 10 := (i 0).isLt
  omega

/-- The word buffer once accumulator 2 is packed. -/
theorem yp2 (i : S10x32x2x128.Idx) : ypr (kernelRun0.sl.H5_30 c fc fs fw fws f0 f1 f2 f3) i = ypv (A2 fc fs fw fws) i := by
  have hlo := half_read _ 2 (by decide) 0 (by decide) _ (acc2 c fc fs fw fws f0 f1 f2 f3) inb_S4x64x1280_S1x32x1280_2_0_0 shapeCasts_S1x32x1280_S32x1280 (by decide)
  have hhi := half_read _ 2 (by decide) 32 (by decide) _ (acc2 c fc fs fw fws f0 f1 f2 f3) inb_S4x64x1280_S1x32x1280_2_32_0 shapeCasts_S1x32x1280_S32x1280 (by decide)
  iterate 10
    refine yp_cons _ _ _ hlo hhi _ (by decide) _ (by decide) _ _ (by decide) (by decide)
      shapeCasts_S32x128_S1x32x128 shapeCasts_S32x128_S1x32x128 shapeCasts_S1x32x128_S1x32x1x128 shapeCasts_S1x32x128_S1x32x1x128
      bitcasts_S1x32x2x128_w16_S1x32x1x128_w32 i ?_
    intro
  have h0 : (i 0).val < 10 := (i 0).isLt
  omega

/-- The word buffer once accumulator 3 is packed. -/
theorem yp3 (i : S10x32x2x128.Idx) : ypr (kernelRun0.sl.H5_40 c fc fs fw fws f0 f1 f2 f3) i = ypv (A3 fc fs fw fws) i := by
  have hlo := half_read _ 3 (by decide) 0 (by decide) _ (acc3 c fc fs fw fws f0 f1 f2 f3) inb_S4x64x1280_S1x32x1280_3_0_0 shapeCasts_S1x32x1280_S32x1280 (by decide)
  have hhi := half_read _ 3 (by decide) 32 (by decide) _ (acc3 c fc fs fw fws f0 f1 f2 f3) inb_S4x64x1280_S1x32x1280_3_32_0 shapeCasts_S1x32x1280_S32x1280 (by decide)
  iterate 10
    refine yp_cons _ _ _ hlo hhi _ (by decide) _ (by decide) _ _ (by decide) (by decide)
      shapeCasts_S32x128_S1x32x128 shapeCasts_S32x128_S1x32x128 shapeCasts_S1x32x128_S1x32x1x128 shapeCasts_S1x32x128_S1x32x1x128
      bitcasts_S1x32x2x128_w16_S1x32x1x128_w32 i ?_
    intro
  have h0 : (i 0).val < 10 := (i 0).isLt
  omega

end

end Cert.KernelIdeal.Hand

end
-- ==== Proof.IY.lean ====
module

public import proofs.«01_k».proof.Proof.IYp
public import Idealize.ShloMosaic.Lib.Pointwise
public import Idealize.ShloMosaic.Lib.Bf16PairInverse
public import Idealize.ShloMosaic.PureOps.Ideal

@[expose] public section

set_option maxRecDepth 16384

noncomputable section

namespace Cert.KernelIdeal.Hand

open Cert.KernelIdeal Cert.KernelIdeal.Gen
open Idealize.ShloMosaic Idealize.ShloMosaic.TcCoe

/-! The staged output: its rows are filled window by window from the word buffer. -/

/-- The staged rows, as pairs of rows, through the window `r`. -/
abbrev ywin (r : Rect S12x100x2x128) : View sig .tc .vmem r.shape .bf16 :=
  ((Memref.whole cc0_scratch6).reshape S12x100x2x128 reshapes_S12x200x128_S12x100x2x128.1 reshapes_S12x200x128_S12x100x2x128.2
    (Memref.isWhole_whole cc0_scratch6).contiguous).access r

theorem resh_row (x : S12x200x128.Idx → S12x200x128.Idx) (h) (a : Fin 12) (w : Fin 100) (b : Fin 2) (l : Fin 128) :
    shapeCast S12x100x2x128 x h (ix4 a w b l) = x (ix3 a ⟨w.val * 2 + b.val, by omega⟩ l) := by
  pointwise

theorem y1_lo (raw : S1x5x2x128.Idx → EReal) (e1 e2 e3 e4 e5 e6) (e1' e2' e3' e4' e5') (w : Fin 5) (l : Fin 128) :
    interleaveRows S1x5x2x128 (shapeCast S1x5x1x128 (shapeCast S1x5x128 (shapeCast S5x128 (shapeCast S1x5x128 (rowsOfParity 0 S1x5x1x128 raw e1) e2) e3) e4) e5)
      (shapeCast S1x5x1x128 (shapeCast S1x5x128 (shapeCast S5x128 (shapeCast S1x5x128 (rowsOfParity 1 S1x5x1x128 raw e1') e2') e3') e4') e5') e6 (ix4 ⟨0, by decide⟩ w ⟨0, by decide⟩ l)
    = raw (ix4 ⟨0, by decide⟩ w ⟨0, by decide⟩ l) := by
  pointwise

theorem y1_hi (raw : S1x5x2x128.Idx → EReal) (e1 e2 e3 e4 e5 e6) (e1' e2' e3' e4' e5') (w : Fin 5) (l : Fin 128) :
    interleaveRows S1x5x2x128 (shapeCast S1x5x1x128 (shapeCast S1x5x128 (shapeCast S5x128 (shapeCast S1x5x128 (rowsOfParity 0 S1x5x1x128 raw e1) e2) e3) e4) e5)
      (shapeCast S1x5x1x128 (shapeCast S1x5x128 (shapeCast S5x128 (shapeCast S1x5x128 (rowsOfParity 1 S1x5x1x128 raw e1') e2') e3') e4') e5') e6 (ix4 ⟨0, by decide⟩ w ⟨1, by decide⟩ l)
    = raw (ix4 ⟨0, by decide⟩ w ⟨1, by decide⟩ l) := by
  pointwise

theorem y6_lo (raw : S1x30x2x128.Idx → EReal) (e1 e2 e3 e4 e5 e6) (e1' e2' e3' e4' e5') (a : Fin 6) (w : Fin 5) (l : Fin 128) :
    interleaveRows S6x5x2x128 (shapeCast S6x5x1x128 (shapeCast S6x5x128 (shapeCast S30x128 (shapeCast S1x30x128 (rowsOfParity 0 S1x30x1x128 raw e1) e2) e3) e4) e5)
      (shapeCast S6x5x1x128 (shapeCast S6x5x128 (shapeCast S30x128 (shapeCast S1x30x128 (rowsOfParity 1 S1x30x1x128 raw e1') e2') e3') e4') e5') e6 (ix4 a w ⟨0, by decide⟩ l)
    = raw (ix4 ⟨0, by decide⟩ ⟨a.val * 5 + w.val, by omega⟩ ⟨0, by decide⟩ l) := by
  pointwise

theorem y6_hi (raw : S1x30x2x128.Idx → EReal) (e1 e2 e3 e4 e5 e6) (e1' e2' e3' e4' e5') (a : Fin 6) (w : Fin 5) (l : Fin 128) :
    interleaveRows S6x5x2x128 (shapeCast S6x5x1x128 (shapeCast S6x5x128 (shapeCast S30x128 (shapeCast S1x30x128 (rowsOfParity 0 S1x30x1x128 raw e1) e2) e3) e4) e5)
      (shapeCast S6x5x1x128 (shapeCast S6x5x128 (shapeCast S30x128 (shapeCast S1x30x128 (rowsOfParity 1 S1x30x1x128 raw e1') e2') e3') e4') e5') e6 (ix4 a w ⟨1, by decide⟩ l)
    = raw (ix4 ⟨0, by decide⟩ ⟨a.val * 5 + w.val, by omega⟩ ⟨1, by decide⟩ l) := by
  pointwise

/-- A place of the window of `n` image rows from row `a` in steps of `sa`, every twentieth pair from `b`, in the staged rows. -/
theorem ywin_emb (n a b sa : ℕ) (i1 i2) (x : (⟨4, ![n, 5, 2, 128]⟩ : Shape).Idx) (ha : a + sa * (x 0).val < 12) (hw : b + 20 * (x 1).val < 100)
    (hb : (x 2).val < 2) (hl : (x 3).val < 128) :
    (ywin { off := ![a, b, 0, 0], size := ![n, 5, 2, 128], stride := ![sa, 20, 1, 1], inb := i1, stride_pos := i2 }).emb x
      = (ix3 ⟨a + sa * (x 0).val, ha⟩ ⟨(b + 20 * (x 1).val) * 2 + (x 2).val, by omega⟩ ⟨(x 3).val, hl⟩ : S12x200x128.Idx) := by
  have e := resh_row id reshapes_S12x200x128_S12x100x2x128.1.symm ⟨a + sa * (x 0).val, ha⟩ ⟨b + 20 * (x 1).val, hw⟩ ⟨(x 2).val, hb⟩ ⟨(x 3).val, hl⟩
  refine Eq.trans ?_ e
  show Shape.reshapeEquiv _ _ = Shape.reshapeEquiv _ _
  congr 1
  refine funext fun y => Fin.ext ?_
  match y with
  | ⟨0, _⟩ => rfl
  | ⟨1, _⟩ => rfl
  | ⟨2, _⟩ => exact (by show 0 + 1 * (x 2).val = (x 2).val; omega)
  | ⟨3, _⟩ => exact (by show 0 + 1 * (x 3).val = (x 3).val; omega)

/-- What the staged rows of one parity hold, from the accumulators of the even and of the odd columns. -/
def yv (B0 B1 : FVec Ideal S64x1280 .f32) : S12x200x128.Idx → EReal :=
  fun i => ypv (if (i 1).val / 20 % 2 = 0 then B0 else B1)
    (ix4 ⟨(i 1).val / 2 % 10, by omega⟩ ⟨5 * ((i 0).val / 2) + (i 1).val / 40, by
      have h0 : (i 0).val < 12 := (i 0).isLt
      have h1 : (i 1).val < 200 := (i 1).isLt
      omega⟩ ⟨(i 1).val % 2, by omega⟩ (i 2))

theorem ypv_congr (A : FVec Ideal S64x1280 .f32) (x y : S10x32x2x128.Idx) (h0 : (x 0).val = (y 0).val) (h1 : (x 1).val = (y 1).val) (h2 : (x 2).val = (y 2).val)
    (h3 : (x 3).val = (y 3).val) : ypv A x = ypv A y := by
  congr 1
  refine funext fun a => Fin.ext ?_
  match a with
  | ⟨0, _⟩ => exact h0
  | ⟨1, _⟩ => exact h1
  | ⟨2, _⟩ => exact h2
  | ⟨3, _⟩ => exact h3

/-- Where a place of the staged rows lies, its value is the word buffer's. -/
theorem yv_eq (B0 B1 A : FVec Ideal S64x1280 .f32) (b : ℕ) (hA0 : b / 10 = 0 → A = B0) (hA1 : b / 10 = 1 → A = B1) (i : S12x200x128.Idx) (hb : (i 1).val / 2 % 20 = b)
    (y : S10x32x2x128.Idx) (h0 : (y 0).val = (i 1).val / 2 % 10) (h1 : (y 1).val = 5 * ((i 0).val / 2) + (i 1).val / 40) (h2 : (y 2).val = (i 1).val % 2) (h3 : (y 3).val = (i 2).val) :
    ypv A y = yv B0 B1 i := by
  have e : A = if (i 1).val / 20 % 2 = 0 then B0 else B1 := by
    split
    · exact hA0 (by omega)
    · exact hA1 (by omega)
  rw [e]
  exact ypv_congr _ _ _ h0 h1 h2 h3

theorem y1_at (L : YpL) (t q : ℕ) (ht : t < 10) (hq : q + 5 ≤ 32) (h : ∀ x, (![t, q, 0, 0] : Fin 4 → ℕ) x + S1x5x2x128.size x ≤ S10x32x2x128.size x)
    (e1 : S1x5x2x128.Bitcasts 16 S1x5x1x128 32) (e2 : S1x5x1x128.ShapeCasts S1x5x128) (e3 : S1x5x128.ShapeCasts S5x128) (e4 : S5x128.ShapeCasts S1x5x128)
    (e5 : S1x5x128.ShapeCasts S1x5x1x128) (e6 : S1x5x2x128.Bitcasts 16 S1x5x1x128 32) (w : Fin 5) (b : Fin 2) (l : Fin 128) :
    interleaveRows S1x5x2x128
      (shapeCast S1x5x1x128 (shapeCast S1x5x128 (shapeCast S5x128 (shapeCast S1x5x128 (rowsOfParity 0 S1x5x1x128 ((Memref.whole cc0_scratch5).view.readCov L (Rect.unit (s := S10x32x2x128) ![t, q, 0, 0] S1x5x2x128.size h).toLoadRect) e1) e2) e3) e4) e5)
      (shapeCast S1x5x1x128 (shapeCast S1x5x128 (shapeCast S5x128 (shapeCast S1x5x128 (rowsOfParity 1 S1x5x1x128 ((Memref.whole cc0_scratch5).view.readCov L (Rect.unit (s := S10x32x2x128) ![t, q, 0, 0] S1x5x2x128.size h).toLoadRect) e1) e2) e3) e4) e5) e6 (ix4 ⟨0, by decide⟩ w b l)
    = ypr L (ix4 ⟨t, ht⟩ ⟨q + w.val, by omega⟩ b l) := by
  have e : ∀ b : Fin 2, (Rect.unit (s := S10x32x2x128) ![t, q, 0, 0] S1x5x2x128.size h).toLoadRect.idx (ix4 ⟨0, by decide⟩ w b l) = (ix4 ⟨t, ht⟩ ⟨q + w.val, by omega⟩ b l : S10x32x2x128.Idx) := by
    intro b
    refine funext fun x => Fin.ext ?_
    match x with
    | ⟨0, _⟩ => exact (by show t + 1 * 0 = t; omega)
    | ⟨1, _⟩ => exact (by show q + 1 * w.val = q + w.val; omega)
    | ⟨2, _⟩ => exact (by show 0 + 1 * b.val = b.val; omega)
    | ⟨3, _⟩ => exact (by show 0 + 1 * l.val = l.val; omega)
  match b with
  | ⟨0, _⟩ => exact (y1_lo _ _ _ _ _ _ _ _ _ _ _ _ w l).trans (congrArg _ (e ⟨0, by decide⟩))
  | ⟨1, _⟩ => exact (y1_hi _ _ _ _ _ _ _ _ _ _ _ _ w l).trans (congrArg _ (e ⟨1, by decide⟩))

theorem y6_at (L : YpL) (t : ℕ) (ht : t < 10) (h : ∀ x, (![t, 0, 0, 0] : Fin 4 → ℕ) x + S1x30x2x128.size x ≤ S10x32x2x128.size x)
    (e1 : S1x30x2x128.Bitcasts 16 S1x30x1x128 32) (e2 : S1x30x1x128.ShapeCasts S1x30x128) (e3 : S1x30x128.ShapeCasts S30x128) (e4 : S30x128.ShapeCasts S6x5x128)
    (e5 : S6x5x128.ShapeCasts S6x5x1x128) (e6 : S6x5x2x128.Bitcasts 16 S6x5x1x128 32) (a : Fin 6) (w : Fin 5) (b : Fin 2) (l : Fin 128) :
    interleaveRows S6x5x2x128
      (shapeCast S6x5x1x128 (shapeCast S6x5x128 (shapeCast S30x128 (shapeCast S1x30x128 (rowsOfParity 0 S1x30x1x128 ((Memref.whole cc0_scratch5).view.readCov L (Rect.unit (s := S10x32x2x128) ![t, 0, 0, 0] S1x30x2x128.size h).toLoadRect) e1) e2) e3) e4) e5)
      (shapeCast S6x5x1x128 (shapeCast S6x5x128 (shapeCast S30x128 (shapeCast S1x30x128 (rowsOfParity 1 S1x30x1x128 ((Memref.whole cc0_scratch5).view.readCov L (Rect.unit (s := S10x32x2x128) ![t, 0, 0, 0] S1x30x2x128.size h).toLoadRect) e1) e2) e3) e4) e5) e6 (ix4 a w b l)
    = ypr L (ix4 ⟨t, ht⟩ ⟨a.val * 5 + w.val, by omega⟩ b l) := by
  have e : ∀ b : Fin 2, (Rect.unit (s := S10x32x2x128) ![t, 0, 0, 0] S1x30x2x128.size h).toLoadRect.idx (ix4 ⟨0, by decide⟩ ⟨a.val * 5 + w.val, by omega⟩ b l) = (ix4 ⟨t, ht⟩ ⟨a.val * 5 + w.val, by omega⟩ b l : S10x32x2x128.Idx) := by
    intro b
    refine funext fun x => Fin.ext ?_
    match x with
    | ⟨0, _⟩ => exact (by show t + 1 * 0 = t; omega)
    | ⟨1, _⟩ => exact (by show 0 + 1 * (a.val * 5 + w.val) = a.val * 5 + w.val; omega)
    | ⟨2, _⟩ => exact (by show 0 + 1 * b.val = b.val; omega)
    | ⟨3, _⟩ => exact (by show 0 + 1 * l.val = l.val; omega)
  match b with
  | ⟨0, _⟩ => exact (y6_lo _ _ _ _ _ _ _ _ _ _ _ _ a w l).trans (congrArg _ (e ⟨0, by decide⟩))
  | ⟨1, _⟩ => exact (y6_hi _ _ _ _ _ _ _ _ _ _ _ _ a w l).trans (congrArg _ (e ⟨1, by decide⟩))

/-- One odd row's window stored. -/
theorem yo_step (B0 B1 A : FVec Ideal S64x1280 .f32) (L : YpL) (hL : ∀ i, ypr L i = ypv A i) (a b t q M : ℕ) (ha : a < 12) (ha' : a % 2 = 1) (hb : b < 20)
    (ht : t = b % 10) (hq : q = 5 * (a / 2)) (hM : M = b * 6 + a / 2 + 1) (hA0 : b / 10 = 0 → A = B0) (hA1 : b / 10 = 1 → A = B1)
    (h : ∀ x, (![t, q, 0, 0] : Fin 4 → ℕ) x + S1x5x2x128.size x ≤ S10x32x2x128.size x)
    (e1 : S1x5x2x128.Bitcasts 16 S1x5x1x128 32) (e2 : S1x5x1x128.ShapeCasts S1x5x128) (e3 : S1x5x128.ShapeCasts S5x128) (e4 : S5x128.ShapeCasts S1x5x128)
    (e5 : S1x5x128.ShapeCasts S1x5x1x128) (e6 : S1x5x2x128.Bitcasts 16 S1x5x1x128 32)
    (f : S12x200x128.Idx → EReal) (i1 i2)
    (hf : ∀ i : S12x200x128.Idx, (i 0).val % 2 = 1 → (i 1).val / 2 % 20 * 6 + (i 0).val / 2 < b * 6 + a / 2 → f i = yv B0 B1 i) (i : S12x200x128.Idx)
    (hi : (i 0).val % 2 = 1) (hlt : (i 1).val / 2 % 20 * 6 + (i 0).val / 2 < M) :
    View.write (Elt Ideal) (ywin { off := ![a, b, 0, 0], size := S1x5x2x128.size, stride := ![1, 20, 1, 1], inb := i1, stride_pos := i2 }) f
      (interleaveRows S1x5x2x128
      (shapeCast S1x5x1x128 (shapeCast S1x5x128 (shapeCast S5x128 (shapeCast S1x5x128 (rowsOfParity 0 S1x5x1x128 ((Memref.whole cc0_scratch5).view.readCov L (Rect.unit (s := S10x32x2x128) ![t, q, 0, 0] S1x5x2x128.size h).toLoadRect) e1) e2) e3) e4) e5)
      (shapeCast S1x5x1x128 (shapeCast S1x5x128 (shapeCast S5x128 (shapeCast S1x5x128 (rowsOfParity 1 S1x5x1x128 ((Memref.whole cc0_scratch5).view.readCov L (Rect.unit (s := S10x32x2x128) ![t, q, 0, 0] S1x5x2x128.size h).toLoadRect) e1) e2) e3) e4) e5) e6) Finset.univ i = yv B0 B1 i := by
  have h0 : (i 0).val < 12 := (i 0).isLt
  have h1 : (i 1).val < 200 := (i 1).isLt
  have h2 : (i 2).val < 128 := (i 2).isLt
  by_cases hh : (i 1).val / 2 % 20 = b ∧ (i 0).val = a
  · obtain ⟨hh1, hh2⟩ := hh
    have e : i = (ywin { off := ![a, b, 0, 0], size := S1x5x2x128.size, stride := ![1, 20, 1, 1], inb := i1, stride_pos := i2 }).emb
        (ix4 ⟨0, by decide⟩ ⟨(i 1).val / 40, by omega⟩ ⟨(i 1).val % 2, by omega⟩ (i 2)) := by
      refine Eq.trans ?_ (ywin_emb 1 a b 1 i1 i2 (ix4 ⟨0, by decide⟩ ⟨(i 1).val / 40, by omega⟩ ⟨(i 1).val % 2, by omega⟩ (i 2))
        (by show a + 1 * 0 < 12; omega) (by show b + 20 * ((i 1).val / 40) < 100; omega) (by show (i 1).val % 2 < 2; omega) h2).symm
      refine funext fun x => Fin.ext ?_
      match x with
      | ⟨0, _⟩ => exact (by show (i 0).val = a + 1 * 0; omega)
      | ⟨1, _⟩ => exact (by show (i 1).val = (b + 20 * ((i 1).val / 40)) * 2 + (i 1).val % 2; omega)
      | ⟨2, _⟩ => rfl
    conv_lhs => rw [e]
    refine (View.write_emb_of_mem _ _ (Finset.mem_univ _)).trans ?_
    refine (y1_at L t q (by omega) (by omega) h e1 e2 e3 e4 e5 e6 ⟨(i 1).val / 40, by omega⟩ ⟨(i 1).val % 2, by omega⟩ (i 2)).trans ?_
    refine (hL _).trans ?_
    refine yv_eq B0 B1 A b hA0 hA1 i hh1 _ ?_ ?_ rfl rfl
    · show t = (i 1).val / 2 % 10; omega
    · show q + (i 1).val / 40 = 5 * ((i 0).val / 2) + (i 1).val / 40; omega
  · refine (View.write_of_not_mem _ _ _ ?_).trans (hf i hi ?_)
    · intro hm
      obtain ⟨x, -, hx⟩ := Finset.mem_map.mp hm
      have x0 : (x 0).val < 1 := (x 0).isLt
      have x1 : (x 1).val < 5 := (x 1).isLt
      have x2 : (x 2).val < 2 := (x 2).isLt
      have x3 : (x 3).val < 128 := (x 3).isLt
      have he := (ywin_emb 1 a b 1 i1 i2 x (by omega) (by omega) x2 x3).symm.trans hx
      have g0 : a + 1 * (x 0).val = (i 0).val := congrArg (fun y : S12x200x128.Idx => (y 0).val) he
      have g1 : (b + 20 * (x 1).val) * 2 + (x 2).val = (i 1).val := congrArg (fun y : S12x200x128.Idx => (y 1).val) he
      omega
    · omega

/-- The windows of all even rows stored at once. -/
theorem ye_step (B0 B1 A : FVec Ideal S64x1280 .f32) (L : YpL) (hL : ∀ i, ypr L i = ypv A i) (b t M : ℕ) (hb : b < 20)
    (ht : t = b % 10) (hM : M = b + 1) (hA0 : b / 10 = 0 → A = B0) (hA1 : b / 10 = 1 → A = B1)
    (h : ∀ x, (![t, 0, 0, 0] : Fin 4 → ℕ) x + S1x30x2x128.size x ≤ S10x32x2x128.size x)
    (e1 : S1x30x2x128.Bitcasts 16 S1x30x1x128 32) (e2 : S1x30x1x128.ShapeCasts S1x30x128) (e3 : S1x30x128.ShapeCasts S30x128) (e4 : S30x128.ShapeCasts S6x5x128)
    (e5 : S6x5x128.ShapeCasts S6x5x1x128) (e6 : S6x5x2x128.Bitcasts 16 S6x5x1x128 32)
    (f : S12x200x128.Idx → EReal) (i1 i2)
    (hf : ∀ i : S12x200x128.Idx, (i 0).val % 2 = 0 → (i 1).val / 2 % 20 < b → f i = yv B0 B1 i) (i : S12x200x128.Idx)
    (hi : (i 0).val % 2 = 0) (hlt : (i 1).val / 2 % 20 < M) :
    View.write (Elt Ideal) (ywin { off := ![0, b, 0, 0], size := S6x5x2x128.size, stride := ![2, 20, 1, 1], inb := i1, stride_pos := i2 }) f
      (interleaveRows S6x5x2x128
      (shapeCast S6x5x1x128 (shapeCast S6x5x128 (shapeCast S30x128 (shapeCast S1x30x128 (rowsOfParity 0 S1x30x1x128 ((Memref.whole cc0_scratch5).view.readCov L (Rect.unit (s := S10x32x2x128) ![t, 0, 0, 0] S1x30x2x128.size h).toLoadRect) e1) e2) e3) e4) e5)
      (shapeCast S6x5x1x128 (shapeCast S6x5x128 (shapeCast S30x128 (shapeCast S1x30x128 (rowsOfParity 1 S1x30x1x128 ((Memref.whole cc0_scratch5).view.readCov L (Rect.unit (s := S10x32x2x128) ![t, 0, 0, 0] S1x30x2x128.size h).toLoadRect) e1) e2) e3) e4) e5) e6) Finset.univ i = yv B0 B1 i := by
  have h0 : (i 0).val < 12 := (i 0).isLt
  have h1 : (i 1).val < 200 := (i 1).isLt
  have h2 : (i 2).val < 128 := (i 2).isLt
  by_cases hh1 : (i 1).val / 2 % 20 = b
  · have e : i = (ywin { off := ![0, b, 0, 0], size := S6x5x2x128.size, stride := ![2, 20, 1, 1], inb := i1, stride_pos := i2 }).emb
        (ix4 ⟨(i 0).val / 2, by omega⟩ ⟨(i 1).val / 40, by omega⟩ ⟨(i 1).val % 2, by omega⟩ (i 2)) := by
      refine Eq.trans ?_ (ywin_emb 6 0 b 2 i1 i2 (ix4 ⟨(i 0).val / 2, by omega⟩ ⟨(i 1).val / 40, by omega⟩ ⟨(i 1).val % 2, by omega⟩ (i 2))
        (by show 0 + 2 * ((i 0).val / 2) < 12; omega) (by show b + 20 * ((i 1).val / 40) < 100; omega) (by show (i 1).val % 2 < 2; omega) h2).symm
      refine funext fun x => Fin.ext ?_
      match x with
      | ⟨0, _⟩ => exact (by show (i 0).val = 0 + 2 * ((i 0).val / 2); omega)
      | ⟨1, _⟩ => exact (by show (i 1).val = (b + 20 * ((i 1).val / 40)) * 2 + (i 1).val % 2; omega)
      | ⟨2, _⟩ => rfl
    conv_lhs => rw [e]
    refine (View.write_emb_of_mem _ _ (Finset.mem_univ _)).trans ?_
    refine (y6_at L t (by omega) h e1 e2 e3 e4 e5 e6 ⟨(i 0).val / 2, by omega⟩ ⟨(i 1).val / 40, by omega⟩ ⟨(i 1).val % 2, by omega⟩ (i 2)).trans ?_
    refine (hL _).trans ?_
    refine yv_eq B0 B1 A b hA0 hA1 i hh1 _ ?_ ?_ rfl rfl
    · show t = (i 1).val / 2 % 10; omega
    · show (i 0).val / 2 * 5 + (i 1).val / 40 = 5 * ((i 0).val / 2) + (i 1).val / 40; omega
  · refine (View.write_of_not_mem _ _ _ ?_).trans (hf i hi ?_)
    · intro hm
      obtain ⟨x, -, hx⟩ := Finset.mem_map.mp hm
      have x0 : (x 0).val < 6 := (x 0).isLt
      have x1 : (x 1).val < 5 := (x 1).isLt
      have x2 : (x 2).val < 2 := (x 2).isLt
      have x3 : (x 3).val < 128 := (x 3).isLt
      have he := (ywin_emb 6 0 b 2 i1 i2 x (by omega) (by omega) x2 x3).symm.trans hx
      have g1 : (b + 20 * (x 1).val) * 2 + (x 2).val = (i 1).val := congrArg (fun y : S12x200x128.Idx => (y 1).val) he
      omega
    · omega

section
variable (c : Dev nD) (fc : Buf (Elt Ideal) ((c : Thread nD τ).loc main_v6)) (fs : Buf (Elt Ideal) ((c : Thread nD τ).loc main_v11))
  (fw : Buf (Elt Ideal) ((c : Thread nD τ).loc main_arg2)) (fws : Buf (Elt Ideal) ((c : Thread nD τ).loc main_arg3))
  (f0 : Buf (Elt Ideal) ((c : Thread nD τ).loc cc0_scratch0)) (f1 : Buf (Elt Ideal) ((c : Thread nD τ).loc cc0_scratch1))
  (f2 : Buf (Elt Ideal) ((c : Thread nD τ).loc cc0_scratch2)) (f3 : Buf (Elt Ideal) ((c : Thread nD τ).loc cc0_scratch3))
  (f6 : Buf (Elt Ideal) ((c : Thread nD τ).loc cc0_scratch6))

/-- The even rows, once all of them are staged. -/
theorem yEven (i : S12x200x128.Idx) (hi : (i 0).val % 2 = 0) :
    kernelRun0.sl.H6_w39 c fc fs fw fws f0 f1 f2 f3 f6 i = yv (A0 fc fs fw fws) (A1 fc fs fw fws) i := by
  have E := fun (A : FVec Ideal S64x1280 .f32) (L : YpL) (hL : ∀ i, ypr L i = ypv A i) b t M hb ht hM hA0 hA1 h f i1 i2 hf i hi hlt =>
    ye_step (A0 fc fs fw fws) (A1 fc fs fw fws) A L hL b t M hb ht hM hA0 hA1 h bitcasts_S1x30x2x128_w16_S1x30x1x128_w32 shapeCasts_S1x30x1x128_S1x30x128
      shapeCasts_S1x30x128_S30x128 shapeCasts_S30x128_S6x5x128 shapeCasts_S6x5x128_S6x5x1x128 bitcasts_S6x5x2x128_w16_S6x5x1x128_w32 f i1 i2 hf i hi hlt
  refine E _ _ (yp1 c fc fs fw fws f0 f1 f2 f3) _ _ 20 (by decide) (by decide) (by decide) (fun h => absurd h (by decide)) (fun _ => rfl) _ _ _ _ ?_ i hi (by omega)
  clear hi i
  intro i hi hlt
  iterate 9
    refine E _ _ (yp1 c fc fs fw fws f0 f1 f2 f3) _ _ _ (by decide) (by decide) (by decide) (fun h => absurd h (by decide)) (fun _ => rfl) _ _ _ _ ?_ i hi hlt
    clear hlt hi i
    intro i hi hlt
  iterate 10
    refine E _ _ (yp0 c fc fs fw fws f0 f1 f2 f3) _ _ _ (by decide) (by decide) (by decide) (fun _ => rfl) (fun h => absurd h (by decide)) _ _ _ _ ?_ i hi hlt
    clear hlt hi i
    intro i hi hlt
  omega

set_option maxHeartbeats 2000000 in
/-- The odd rows, once all of them are staged. -/
theorem yOdd (i : S12x200x128.Idx) (hi : (i 0).val % 2 = 1) :
    kernelRun0.sl.H6_w165 c fc fs fw fws f0 f1 f2 f3 f6 i = yv (A2 fc fs fw fws) (A3 fc fs fw fws) i := by
  have E := fun (A : FVec Ideal S64x1280 .f32) (L : YpL) (hL : ∀ i, ypr L i = ypv A i) a b t q M ha ha' hb ht hq hM hA0 hA1 h f i1 i2 hf i hi hlt =>
    yo_step (A2 fc fs fw fws) (A3 fc fs fw fws) A L hL a b t q M ha ha' hb ht hq hM hA0 hA1 h bitcasts_S1x5x2x128_w16_S1x5x1x128_w32 shapeCasts_S1x5x1x128_S1x5x128
      shapeCasts_S1x5x128_S5x128 shapeCasts_S5x128_S1x5x128 shapeCasts_S1x5x128_S1x5x1x128 bitcasts_S1x5x2x128_w16_S1x5x1x128_w32 f i1 i2 hf i hi hlt
  have h0 : (i 0).val < 12 := (i 0).isLt
  refine E _ _ (yp3 c fc fs fw fws f0 f1 f2 f3) _ _ _ _ 120 (by decide) (by decide) (by decide) (by decide) (by decide) (by decide) (fun h => absurd h (by decide)) (fun _ => rfl) _ _ _ _ ?_ i hi (by omega)
  clear h0 hi i
  intro i hi hlt
  iterate 59
    refine E _ _ (yp3 c fc fs fw fws f0 f1 f2 f3) _ _ _ _ _ (by decide) (by decide) (by decide) (by decide) (by decide) (by decide) (fun h => absurd h (by decide)) (fun _ => rfl) _ _ _ _ ?_ i hi hlt
    clear hlt hi i
    intro i hi hlt
  iterate 60
    refine E _ _ (yp2 c fc fs fw fws f0 f1 f2 f3) _ _ _ _ _ (by decide) (by decide) (by decide) (by decide) (by decide) (by decide) (fun _ => rfl) (fun h => absurd h (by decide)) _ _ _ _ ?_ i hi hlt
    clear hlt hi i
    intro i hi hlt
  omega

end

end Cert.KernelIdeal.Hand

end
-- ==== Proof.IOut.lean ====
module

public import proofs.«01_k».proof.Proof.IY
public import Idealize.ShloMosaic.Lib.Pointwise
public import Idealize.ShloMosaic.Lib.Bf16PairInverse
public import Idealize.ShloMosaic.PureOps.Ideal

@[expose] public section

set_option maxRecDepth 16384

noncomputable section

namespace Cert.KernelIdeal.Hand

open Cert.KernelIdeal Cert.KernelIdeal.Gen
open Idealize.ShloMosaic Idealize.ShloMosaic.TcCoe

/-! The result: each staged row is copied out once it is whole. -/

/-- A place of a row of the result, in the whole. -/
theorem orow_emb (h : ℕ) (hh : h < 12) (b : ∀ a, (![h, 0, 0] : Fin 3 → ℕ) a + S1x200x128.size a ≤ S12x200x128.size a)
    (b') (b'' : S1x200x128.Squeezes S200x128) (x : S200x128.Idx) :
    (((Memref.whole main_v12).slice (Rect.unit (s := S12x200x128) ![h, 0, 0] S1x200x128.size b) b').squeeze S200x128 b'').view.emb x
      = (ix3 ⟨h, hh⟩ (x 0) (x 1) : S12x200x128.Idx) := by
  have he : Shape.reshapeEquiv (s := S1x200x128) (s' := S200x128) b''.numel_eq x = ix3 ⟨0, by decide⟩ (x 0) (x 1) :=
    Shape.reshapeEquiv_cons_one _ _ |>.trans (by
      funext a
      match a with | ⟨0, _⟩ => rfl | ⟨1, _⟩ => rfl | ⟨2, _⟩ => rfl)
  show (Rect.unit (s := S12x200x128) ![h, 0, 0] S1x200x128.size b).emb (Shape.reshapeEquiv (s := S1x200x128) (s' := S200x128) b''.numel_eq x) = _
  rw [he]
  refine funext fun a => Fin.ext ?_
  match a with
  | ⟨0, _⟩ => exact (by show h + 1 * 0 = h; omega)
  | ⟨1, _⟩ => exact (by show 0 + 1 * (x 0).val = (x 0).val; omega)
  | ⟨2, _⟩ => exact (by show 0 + 1 * (x 1).val = (x 1).val; omega)

/-- A staged row, read for its copy. -/
theorem srow_read (g : S12x200x128.Idx → EReal) (h : ℕ) (hh : h < 12) (b : ∀ a, (![h, 0, 0] : Fin 3 → ℕ) a + S1x200x128.size a ≤ S12x200x128.size a)
    (b') (b'' : S1x200x128.Squeezes S200x128) (x : S200x128.Idx) :
    (ReadAs.same.apply (View.read (Elt Ideal) (((Memref.whole cc0_scratch6).slice (Rect.unit (s := S12x200x128) ![h, 0, 0] S1x200x128.size b) b').squeeze S200x128 b'').view g) : S200x128.Idx → EReal) x
      = g (ix3 ⟨h, hh⟩ (x 0) (x 1)) :=
  congrArg g (orow_emb h hh b b' b'' x)

/-- One row copied out. -/
theorem orow_step (Y : S12x200x128.Idx → EReal) (h : ℕ) (hh : h < 12) (f g : S12x200x128.Idx → EReal)
    (b c : ∀ a, (![h, 0, 0] : Fin 3 → ℕ) a + S1x200x128.size a ≤ S12x200x128.size a) (b' c') (b'' c'' : S1x200x128.Squeezes S200x128)
    (hg : ∀ i : S12x200x128.Idx, (i 0).val = h → g i = Y i) (i : S12x200x128.Idx) (hf : (i 0).val ≠ h → f i = Y i) :
    View.write (Elt Ideal) (((Memref.whole main_v12).slice (Rect.unit (s := S12x200x128) ![h, 0, 0] S1x200x128.size b) b').squeeze S200x128 b'').view f
      (ReadAs.same.apply (View.read (Elt Ideal) (((Memref.whole cc0_scratch6).slice (Rect.unit (s := S12x200x128) ![h, 0, 0] S1x200x128.size c) c').squeeze S200x128 c'').view g)) Finset.univ i = Y i := by
  by_cases hi : (i 0).val = h
  · have e : i = (((Memref.whole main_v12).slice (Rect.unit (s := S12x200x128) ![h, 0, 0] S1x200x128.size b) b').squeeze S200x128 b'').view.emb (ix2 (i 1) (i 2)) := by
      refine Eq.trans ?_ (orow_emb h hh b b' b'' (ix2 (i 1) (i 2))).symm
      refine funext fun a => Fin.ext ?_
      match a with
      | ⟨0, _⟩ => exact hi
      | ⟨1, _⟩ => rfl
      | ⟨2, _⟩ => rfl
    refine Eq.trans ?_ (hg i hi)
    conv_lhs => rw [e]
    refine (View.write_emb_of_mem _ _ (Finset.mem_univ _)).trans ?_
    refine (srow_read g h hh c c' c'' (ix2 (i 1) (i 2))).trans (congrArg g ?_)
    refine funext fun a => Fin.ext ?_
    match a with
    | ⟨0, _⟩ => exact hi.symm
    | ⟨1, _⟩ => rfl
    | ⟨2, _⟩ => rfl
  · refine (View.write_of_not_mem _ _ _ ?_).trans (hf hi)
    intro hm
    obtain ⟨x, -, hx⟩ := Finset.mem_map.mp hm
    have he := (orow_emb h hh b b' b'' x).symm.trans hx
    exact hi (congrArg (fun y : S12x200x128.Idx => (y 0).val) he).symm

/-- The kernel's result array. -/
def yAll (fc : S1024x2560.Idx → EReal) (fs : S1024x128.Idx → EReal) (fw : S16x2560x1280.Idx → EReal) (fws : S16x1280.Idx → EReal) : S12x200x128.Idx → EReal :=
  fun i => if (i 0).val % 2 = 0 then yv (A0 fc fs fw fws) (A1 fc fs fw fws) i else yv (A2 fc fs fw fws) (A3 fc fs fw fws) i

set_option maxHeartbeats 2000000 in
/-- The result the body leaves does not depend on what its buffers held before. -/
theorem run_value (c : Dev nD) (fc : Buf (Elt Ideal) ((c : Thread nD τ).loc main_v6)) (fs : Buf (Elt Ideal) ((c : Thread nD τ).loc main_v11))
    (fw : Buf (Elt Ideal) ((c : Thread nD τ).loc main_arg2)) (fws : Buf (Elt Ideal) ((c : Thread nD τ).loc main_arg3)) (fy : Buf (Elt Ideal) ((c : Thread nD τ).loc main_v12))
    (f0 : Buf (Elt Ideal) ((c : Thread nD τ).loc cc0_scratch0)) (f1 : Buf (Elt Ideal) ((c : Thread nD τ).loc cc0_scratch1)) (f2 : Buf (Elt Ideal) ((c : Thread nD τ).loc cc0_scratch2))
    (f3 : Buf (Elt Ideal) ((c : Thread nD τ).loc cc0_scratch3)) (f4 : Buf (Elt Ideal) ((c : Thread nD τ).loc cc0_scratch4)) (f5 : Buf (Elt Ideal) ((c : Thread nD τ).loc cc0_scratch5))
    (f6 : Buf (Elt Ideal) ((c : Thread nD τ).loc cc0_scratch6)) :
    (kernelRun0 (F := Ideal) c fc fs fw fws fy f0 f1 f2 f3 f4 f5 f6).1 = yAll fc fs fw fws := by
  have hO : ∀ i : S12x200x128.Idx, (i 0).val % 2 = 1 → kernelRun0.sl.H6_w165 c fc fs fw fws f0 f1 f2 f3 f6 i = yAll fc fs fw fws i := fun i hi =>
    (yOdd c fc fs fw fws f0 f1 f2 f3 f6 i hi).trans (if_neg (by omega)).symm
  have hE : ∀ i : S12x200x128.Idx, (i 0).val % 2 = 0 → kernelRun0.sl.H6_w39 c fc fs fw fws f0 f1 f2 f3 f6 i = yAll fc fs fw fws i := fun i hi =>
    (yEven c fc fs fw fws f0 f1 f2 f3 f6 i hi).trans (if_pos hi).symm
  funext i
  have h0 : (i 0).val < 12 := (i 0).isLt
  iterate 6
    refine orow_step _ _ (by decide) _ _ _ _ _ _ _ _ (fun i hi => hO i (by rw [hi])) i (fun _ => ?_)
  iterate 6
    refine orow_step _ _ (by decide) _ _ _ _ _ _ _ _ (fun i hi => hE i (by rw [hi])) i (fun _ => ?_)
  omega

end Cert.KernelIdeal.Hand

end
-- ==== Proof.IValue.lean ====
/- The run of the idealized program with its value: the result array of the region holds `yAll` of the arrays that
   the region reads, and the host lines after it rearrange that array. -/
module

public import proofs.«01_k».proof.Proof.IFrame
public import proofs.«01_k».proof.Proof.IOut

@[expose] public section

set_option maxRecDepth 16384

noncomputable section

namespace Cert.KernelIdeal.HandV

open Cert.KernelIdeal Cert.KernelIdeal.Gen
open Cert.KernelIdeal.Hand hiding frame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-- What the region leaves in the arrays that it does not stage: its result at `yAll`, the others as it finds them. -/
def G (c : Dev nD) : (b : Ref sig .tc) → Buf (Elt Ideal) ((c.tc : Thread nD τ).loc b) :=
  Function.update (V m c) main_v12 (yAll (V m c main_v6) (V m c main_v11) (V m c main_arg2) (V m c main_arg3))

theorem G_v12 (c : Dev nD) : G m c main_v12 = yAll (V m c main_v6) (V m c main_v11) (V m c main_arg2) (V m c main_arg3) := by
  unfold G; exact Function.update_self ..

/-- The invariant: before the body the arrays are as the region finds them, after it they are at `G`. -/
def datsV (_ : Fin 1) (c : Dev nD) : Dat τ (Elt Ideal) Unit ℕ (Pipeline.UD sig nD τ) ℕ cfg0 c where
  A w := w.elim0
  after w t := w.elim0
  Φ t := Pipeline.ΦDRV osem0 cfg0.spec H0 R0 (V m) (if t.val = 0 then V m else G m) c
  q _ := fullShare
  owed _ := 0

def bodyPreV (c : Dev nD) (t : Fin cfg0.N) : sProp 𝕄 := iprop((datsV m 0 c).Φ t.castSucc ∗ (datsV m 0 c).owesAt () t.castSucc ∗ emp)
def bodyPostV (c : Dev nD) (t : Fin cfg0.N) : sProp 𝕄 := iprop((datsV m 0 c).Φ t.succ ∗ (datsV m 0 c).owesAt () t.succ ∗ emp)

theorem sound_bodyV (c : Dev nD) (t : Fin cfg0.N) :
    bodyPreV m c t ⊢ wp frame (wpE (defs₀ (F := Ideal)) Variants.none c none) Set.univ (bodyAt0 t) (fun _ => bodyPostV m c t) := by
  obtain rfl := fin_N0 t
  unfold bodyPreV bodyPostV
  rw [show (datsV m 0 c).Φ t0_0.succ = Pipeline.ΦDRV osem0 cfg0.spec H0 R0 (V m) (G m) c from rfl,
    show (datsV m 0 c).Φ t0_0.castSucc = Pipeline.ΦDRV osem0 cfg0.spec H0 R0 (V m) (V m) c from rfl]
  unfold Pipeline.ΦDRV
  rw [scoped0_eq, ownSems00_eq, hbmPts0_eq, resPts0_eq c (V m c), resPts0_eq c (G m c), G_v12]
  unfold Dat.owesAt Pipeline.owesWithin
  rw [show (datsV m 0 c).owed t0_0.castSucc = 0 from rfl, show (datsV m 0 c).owed t0_0.succ = 0 from rfl]
  iintro ⟨⟨⟨⟨%f0, H0⟩, ⟨%f1, H1⟩, ⟨%f2, H2⟩, ⟨%f3, H3⟩, ⟨%f4, H4⟩, ⟨%f5, H5⟩, ⟨%f6, H6⟩⟩, ⟨Q0, Q1, Q2, Q3, Q4, Q5, Q6, Q7, Q8, Q9, Q10, Q11, Q12, Q13, Q14, Q15, Q16⟩, ⟨A0, A1, A2, A3⟩, A4⟩, ⟨%W, -, HW⟩, -⟩
  iapply ((kernelRun0 (F := Ideal) c (V m c main_v6) (V m c main_v11) (V m c main_arg2) (V m c main_arg3) (V m c main_v12) f0 f1 f2 f3 f4 f5 f6).2 W _ trivial)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [A0]; · iexact A0
  isplitl [A1]; · iexact A1
  isplitl [A2]; · iexact A2
  isplitl [A3]; · iexact A3
  isplitl [A4]; · iexact A4
  isplitl [HW]; · iexact HW
  iintro ⟨H0, H1, H2, H3, H4, H5, H6, Q0, Q1, Q2, Q3, Q4, Q5, Q6, Q7, Q8, Q9, Q10, Q11, Q12, Q13, Q14, Q15, Q16, A0, A1, A2, A3, A4, ⟨%W', HW'⟩⟩
  rw [run_value]
  isplitl [H0 H1 H2 H3 H4 H5 H6 Q0 Q1 Q2 Q3 Q4 Q5 Q6 Q7 Q8 Q9 Q10 Q11 Q12 Q13 Q14 Q15 Q16 A0 A1 A2 A3 A4]
  · isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [Q0 Q1 Q2 Q3 Q4 Q5 Q6 Q7 Q8 Q9 Q10 Q11 Q12 Q13 Q14 Q15 Q16]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      isplitl [Q13]; · iexact Q13
      isplitl [Q14]; · iexact Q14
      isplitl [Q15]; · iexact Q15
      iexact Q16
    isplitl [A0 A1 A2 A3]
    · isplitl [A0]; · iexact A0
      isplitl [A1]; · iexact A1
      isplitl [A2]; · iexact A2
      iexact A3
    iexact A4
  isplitl [HW']
  · iexists W'; isplitr; · ipureintro; exact fun _ _ => Or.inl trivial
    iexact HW'
  iempintro

theorem body_obligationV (c : Dev nD) : BodyObligation (datsV m 0 c) (defs₀ (F := Ideal)) Variants.none () Set.univ := fun t => by
  rw [bigSep_none, bigSep_none, defs₀_row]
  exact triple_restated (sound_bodyV m c t) rfl .rfl fun _ => .rfl

/-- The buffers at the region's exit. -/
abbrev exitV (c : Dev nD) : Valuation τ sig (Elt Ideal) :=
  Pipeline.withArrays cfg0.spec c (Pipeline.withR (V0 m c) R0 c (G m c)) fun w => (datsV m 0 c).arrAt w cfg0.N

set_option backward.isDefEq.respectTransparency.types false in
theorem run_mainV : θ_run defs (onTc (τ := τ) (main (F := Ideal))) (s₀ m ρ)
    (fun r => ∀ c : Dev nD, ∀ b ∈ Pipeline.restRefs sig cfg0.spec, r.2.mem ((c.tc : Thread nD τ).loc b)
      = StableHlo.after (List.flatten [hostOps1]) (exitV m c) (Proc.devRef .tc b)) :=
  Pipeline.θ_run_frame_dmaR_aroundV (Q' := _) cfgs (datsV m) (0 : Fin 1) launch0 osem0 defs₀ Variants.none ownSemFactsD H0 R0 H0_sub R0_sub m ρ main
    (hbody := fun c => (body_obligationV m c).loose) (hshare := fun c => (datsV m 0 c).share_full fun _ => rfl)
    (howed := fun _ _ => rfl) (V₀ := V0 m) (opss := [hostOps1]) (hsub := sfx_sub) (hfresh := sfx_fresh) (hkeep := sfx_keeps) (G := G m)
    (hmain := hmainD m Variants.none) (hA := fun _ w => w.elim0) (hin := fun _ => .rfl) (hout := fun _ => .rfl)
    (hQ' := fun _ h c b hb => (h.1 c).2 b hb)

/-! ## The lines after the region -/

theorem exitV_eq (c : Dev nD) (b : Ref sig .tc) : exitV m c (Proc.devRef .tc b) = Pipeline.withR (V0 m c) R0 c (G m c) (Proc.devRef .tc b) :=
  Pipeline.withArrays_of_ne _ c _ _ b fun w => w.elim0

theorem exitV_v12 (c : Dev nD) : exitV m c (Proc.devRef .tc main_v12)
    = yAll (V m c main_v6) (V m c main_v11) (V m c main_arg2) (V m c main_arg3) :=
  (exitV_eq m c main_v12).trans ((Pipeline.withR_of_mem (V0 m c) R0 c (G m c) main_v12 (by decide)).trans (G_v12 m c))

theorem exitV_keep (c : Dev nD) (b : Ref sig .tc) (h : b ∉ R0) : exitV m c (Proc.devRef .tc b) = V m c b :=
  (exitV_eq m c b).trans (Pipeline.withR_of_not_mem (V0 m c) R0 c (G m c) b h)

abbrev hostOps1_W : List (Ref sig .tc) := [main_v13, main_v14, main_v15]
theorem hostOps1_wr : (hostOps1 : List (HloOp τ sig (Elt Ideal))).Forall fun op => op.writes ⊆ (hostOps1_W.map (Proc.devRef (τ := τ) .tc)).toFinset :=
  StableHlo.forall_writes_sub_of_map rfl

theorem after_keep (c : Dev nD) (b : Ref sig .tc) (h : b ∉ hostOps1_W) (h' : b ∉ R0) :
    StableHlo.after (List.flatten [hostOps1]) (exitV m c) (Proc.devRef .tc b) = V m c b := by
  rw [List.flatten_cons, List.flatten_nil, List.append_nil, StableHlo.after_of_writes_sub (r := b) hostOps1 _ hostOps1_wr h, exitV_keep m c b h']

/-- The result: the region's result array, its column tiles and images moved to their places. -/
def outv (y : Vec Ideal S12x200x128 .bf16) : Vec Ideal S2x12x10x1280 .bf16 :=
  shapeCast _ (transpose S2x12x10x10x128 [3, 0, 1, 2, 4] (shapeCast _ y shapeCasts_S12x200x128_S12x10x10x2x128)
    transposes_S12x10x10x2x128_S2x12x10x10x128_3_0_1_2_4) shapeCasts_S2x12x10x10x128_S2x12x10x1280

theorem after_v15 (c : Dev nD) : StableHlo.after (List.flatten [hostOps1]) (exitV m c) (Proc.devRef .tc main_v15)
    = outv (yAll (V m c main_v6) (V m c main_v11) (V m c main_arg2) (V m c main_arg3)) := by
  rw [← exitV_v12 m c]
  generalize exitV m c = X
  rw [List.flatten_cons, List.flatten_nil, List.append_nil]
  after_results_simp
  rfl

/-- The program's run: its result is `outv` of `yAll`, its arguments are unchanged. -/
theorem runV : θ_run defs (onTc (τ := τ) (main (F := Ideal))) ⟨m, fun _ => 0, ρ⟩ (fun r => ∀ c : Dev nD,
      r.2.mem ((c.tc : Thread nD τ).loc main_v15) = outv (yAll (V m c main_v6) (V m c main_v11) (V m c main_arg2) (V m c main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c main_v15 (Pipeline.mem_restRefs_of main_v15 (by decide) (by decide))).trans (after_v15 m c),
      (h c main_arg0 (Pipeline.mem_restRefs_of main_arg0 (by decide) (by decide))).trans ((after_keep m c main_arg0 (by decide) (by decide)).trans (V_main_arg0 m c)),
      (h c main_arg1 (Pipeline.mem_restRefs_of main_arg1 (by decide) (by decide))).trans ((after_keep m c main_arg1 (by decide) (by decide)).trans (V_main_arg1 m c)),
      (h c main_arg2 (Pipeline.mem_restRefs_of main_arg2 (by decide) (by decide))).trans ((after_keep m c main_arg2 (by decide) (by decide)).trans (V_main_arg2 m c)),
      (h c main_arg3 (Pipeline.mem_restRefs_of main_arg3 (by decide) (by decide))).trans ((after_keep m c main_arg3 (by decide) (by decide)).trans (V_main_arg3 m c))⟩) (run_mainV m ρ)

end Cert.KernelIdeal.HandV

end
-- ==== Proof.RValue.lean ====
/- The reference's result, element by element. -/
module

public import proofs.«01_k».proof.Proof.Gen.ReferenceIdeal.Run
public import Idealize.ShloMosaic.Lib.Pointwise
public import Idealize.ShloMosaic.Lib.Pipeline.ValueKit
public import Idealize.ShloMosaic.PureOps.Ideal

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe

/-- One tap's scaled product: row `n` of tap `p`'s codes times column `k` of its weights, times both scales. -/
def mv (xc : S16x60x2560.Idx → EReal) (xs : S16x60.Idx → EReal) (wc : S16x2560x1280.Idx → EReal) (ws : S16x1280.Idx → EReal)
    (p : Fin 16) (n : Fin 60) (ch : Fin 1280) : EReal :=
  (∑ k : Fin 2560, xc (ix3 p n k) * wc (ix3 p k ch)) * xs (ix2 p n) * ws (ix2 p ch)

/-! The signed sums of the output transform, in the order of the taps. -/

def tap00 (g : Fin 16 → EReal) : EReal := g 0 + g 1 + g 2 + g 4 + g 5 + g 6 + g 8 + g 9 + g 10
def tap01 (g : Fin 16 → EReal) : EReal := g 1 - g 2 - g 3 + g 5 - g 6 - g 7 + g 9 - g 10 - g 11
def tap10 (g : Fin 16 → EReal) : EReal := g 4 + g 5 + g 6 - g 8 - g 9 - g 10 - g 12 - g 13 - g 14
def tap11 (g : Fin 16 → EReal) : EReal := g 5 - g 6 - g 7 - g 9 + g 10 + g 11 - g 13 + g 14 + g 15

/-- The sum that an output pixel of row parity `r` and column parity `s` takes. -/
def tap (r s : Fin 2) : (Fin 16 → EReal) → EReal :=
  if r = 0 then (if s = 0 then tap00 else tap01) else (if s = 0 then tap10 else tap11)

theorem res_out (X : FVec Ideal S2x2x2x6x5x1280 .f32) (b : Fin 2) (hp : Fin 6) (r : Fin 2) (wp : Fin 5) (s : Fin 2) (ch : Fin 1280) :
    (truncf .bf16 (shapeCast _ (transpose S2x6x2x5x2x1280 [2, 3, 0, 4, 1, 5] X transposes_S2x2x2x6x5x1280_S2x6x2x5x2x1280_2_3_0_4_1_5) shapeCasts_S2x6x2x5x2x1280_S2x12x10x1280) bitsLt_bf16_f32 : FVec Ideal S2x12x10x1280 .bf16)
      (ix4 b ⟨hp.val * 2 + r.val, by omega⟩ ⟨wp.val * 2 + s.val, by omega⟩ ch)
    = X (ix6 r s b hp wp ch) := by
  show (shapeCast S2x12x10x1280 (transpose S2x6x2x5x2x1280 [2, 3, 0, 4, 1, 5] X transposes_S2x2x2x6x5x1280_S2x6x2x5x2x1280_2_3_0_4_1_5) shapeCasts_S2x6x2x5x2x1280_S2x12x10x1280)
      (ix4 b ⟨hp.val * 2 + r.val, by omega⟩ ⟨wp.val * 2 + s.val, by omega⟩ ch) = _
  pointwise

theorem res8 (V0 : Valuation τ sig (Elt Ideal)) (i j : Fin 4) (b : Fin 2) (hp : Fin 6) (wp : Fin 5) (ch : Fin 1280) :
    res_main_v8 V0 (ix6 i j b hp wp ch) = mv (V0 (Proc.devRef .tc main_v0_0)) (V0 (Proc.devRef .tc main_arg1)) (V0 (Proc.devRef .tc main_v0_1)) (V0 (Proc.devRef .tc main_arg3))
      ⟨i.val * 4 + j.val, by omega⟩ ⟨b.val * 30 + hp.val * 5 + wp.val, by omega⟩ ch := by
  unfold res_main_v8
  pointwise
  rfl

theorem res121 (V0 : Valuation τ sig (Elt Ideal)) (r s b : Fin 2) (hp : Fin 6) (wp : Fin 5) (ch : Fin 1280) :
    res_main_v121 V0 (ix6 r s b hp wp ch) = tap r s fun p =>
      mv (V0 (Proc.devRef .tc main_v0_0)) (V0 (Proc.devRef .tc main_arg1)) (V0 (Proc.devRef .tc main_v0_1)) (V0 (Proc.devRef .tc main_arg3))
        p ⟨b.val * 30 + hp.val * 5 + wp.val, by omega⟩ ch := by
  unfold res_main_v121
  have h8 := res8 V0
  generalize res_main_v8 V0 = M at h8 ⊢
  match r, s with
  | ⟨0, _⟩, ⟨0, _⟩ => pointwise; simp only [h8]; rfl
  | ⟨0, _⟩, ⟨1, _⟩ => pointwise; simp only [h8]; rfl
  | ⟨1, _⟩, ⟨0, _⟩ => pointwise; simp only [h8]; rfl
  | ⟨1, _⟩, ⟨1, _⟩ => pointwise; simp only [h8]; rfl

/-! ## The region: the widened arrays are the arguments -/

variable (m : (ℓ : Loc nD τ sig) → Buf (Elt Ideal) ℓ)

theorem idx : ∀ t : Fin cfg0.N, win0_0.index t = ![0, 0, 0] ∧ win0_1.index t = ![0, 0, 0] :=
  (by decide +kernel : ∀ t : Fin grid0.N, _)

theorem iblk0 (c : Dev nD) : iblk m c 0 t0_0 = m ((c : Thread nD τ).loc main_arg0) := by
  blk_ext! [iblk, V, idx t0_0]
theorem iblk1 (c : Dev nD) : iblk m c 1 t0_0 = m ((c : Thread nD τ).loc main_arg2) := by
  blk_ext! [iblk, V, idx t0_0]

theorem off0 : (![0, 0, 0] : Fin 3 → ℕ) = fun _ => 0 := by decide

theorem reg0 (c : Dev nD) : reg_main_v0_0 m c = (m ((c : Thread nD τ).loc main_arg0) : S16x60x2560.Idx → EReal) := by
  refine (dats m 0 c).arrAt_eq_of_after_last 2 t0_0 (by decide +kernel) _ fun j => ?_
  blk_simp
  rw [after0_2]
  unfold out0_2 r0_0
  rw [View.canon_unit_zero off0, View.ld_unit_zero off0, iblk0]
  rfl

theorem reg1 (c : Dev nD) : reg_main_v0_1 m c = (m ((c : Thread nD τ).loc main_arg2) : S16x2560x1280.Idx → EReal) := by
  refine (dats m 0 c).arrAt_eq_of_after_last 3 t0_0 (by decide +kernel) _ fun j => ?_
  blk_simp
  rw [after0_3]
  unfold out0_3 r0_1
  rw [View.canon_unit_zero off0, View.ld_unit_zero off0, iblk1]
  rfl

/-- The reference's result at a pixel: image `b`, row `2 hp + r`, column `2 wp + s`, channel `ch`. -/
theorem ref_apply (c : Dev nD) (b : Fin 2) (hp : Fin 6) (r : Fin 2) (wp : Fin 5) (s : Fin 2) (ch : Fin 1280) :
    (truncf .bf16 (shapeCast _ (transpose S2x6x2x5x2x1280 [2, 3, 0, 4, 1, 5] (res_main_v121 (exitV m c)) transposes_S2x2x2x6x5x1280_S2x6x2x5x2x1280_2_3_0_4_1_5) shapeCasts_S2x6x2x5x2x1280_S2x12x10x1280) bitsLt_bf16_f32 : FVec Ideal S2x12x10x1280 .bf16)
      (ix4 b ⟨hp.val * 2 + r.val, by omega⟩ ⟨wp.val * 2 + s.val, by omega⟩ ch)
    = tap r s fun p => mv (m ((c : Thread nD τ).loc main_arg0)) (m ((c : Thread nD τ).loc main_arg1)) (m ((c : Thread nD τ).loc main_arg2)) (m ((c : Thread nD τ).loc main_arg3))
        p ⟨b.val * 30 + hp.val * 5 + wp.val, by omega⟩ ch := by
  rw [res_out, res121, exit_main_v0_0, exit_main_v0_1, exit_main_arg1, exit_main_arg3, reg0, reg1]

end Cert.ReferenceIdeal.Hand

end
-- ==== Proof.KValue.lean ====
/- The kernel's result, element by element. -/
module

public import proofs.«01_k».proof.Proof.IValue
public import proofs.«01_k».proof.Proof.RValue

@[expose] public section

set_option maxRecDepth 16384

noncomputable section

namespace Cert.KernelIdeal.HandV

open Cert.KernelIdeal Cert.KernelIdeal.Gen
open Cert.KernelIdeal.Hand hiding frame
open Cert.ReferenceIdeal.Hand (mv tap tap00 tap01 tap10 tap11)
open Idealize.ShloMosaic Idealize.ShloMosaic.TcCoe

variable (m : (ℓ : Loc nD τ sig) → Buf (Elt Ideal) ℓ)

/-! ## The arrays that the lines before the region make -/

/-- The codes, each image's 30 rows of a tap followed by two rows that no output reads. -/
def padC (x : Vec Ideal S16x60x2560 .fp8e4m3) : Vec Ideal S1024x2560 .fp8e4m3 :=
  let y : Vec Ideal S16x2x30x2560 .fp8e4m3 := shapeCast S16x2x30x2560 x shapeCasts_S16x60x2560_S16x2x30x2560
  shapeCast S1024x2560 (concatenate S16x2x32x2560 2 [⟨S16x2x30x2560, y⟩, ⟨S16x2x2x2560, extractStridedSlice S16x2x2x2560 ![0, 0, 0, 0] y slices_S16x2x30x2560_S16x2x2x2560_0_0_0_0⟩]
    concatenates_S16x2x30x2560_S16x2x2x2560_S16x2x32x2560_d2) shapeCasts_S16x2x32x2560_S1024x2560

theorem codes_eq (c : Dev nD) : V m c main_v6 = padC (m ((c : Thread nD τ).loc main_arg0)) := by
  unfold V V0
  rw [List.flatten_cons, List.flatten_nil, List.append_nil]
  after_results_simp
  rfl

theorem padC_apply (x : Vec Ideal S16x60x2560 .fp8e4m3) (p : Fin 16) (b : Fin 2) (q : Fin 30) (k : Fin 2560) :
    padC x (ix2 ⟨p.val * 64 + b.val * 32 + q.val, by omega⟩ k) = x (ix3 p ⟨b.val * 30 + q.val, by omega⟩ k) := by
  unfold padC
  pointwise
  rw [dif_pos (by omega)]
  exact congrArg (fun n => x (ix3 p n k)) (Fin.ext (by simp only; omega))

/-- The scales, repeated over 128 columns and padded as the codes are. -/
def padS (x : FVec Ideal S16x60 .f32) : FVec Ideal S1024x128 .f32 :=
  let y : FVec Ideal S16x2x30x128 .f32 := shapeCast S16x2x30x128 (broadcastInDim S16x60x128 ![0, 1, 2] bcast_S16x60x1_S16x60x128_0_1_2
    (broadcastInDim S16x60x1 ![0, 1] bcast_S16x60_S16x60x1_0_1 x)) shapeCasts_S16x60x128_S16x2x30x128
  shapeCast S1024x128 (concatenate S16x2x32x128 2 [⟨S16x2x30x128, y⟩, ⟨S16x2x2x128, extractStridedSlice S16x2x2x128 ![0, 0, 0, 0] y slices_S16x2x30x128_S16x2x2x128_0_0_0_0⟩]
    concatenates_S16x2x30x128_S16x2x2x128_S16x2x32x128_d2) shapeCasts_S16x2x32x128_S1024x128

theorem scales_eq (c : Dev nD) : V m c main_v11 = padS (m ((c : Thread nD τ).loc main_arg1)) := by
  unfold V V0
  rw [List.flatten_cons, List.flatten_nil, List.append_nil]
  after_results_simp
  rfl

theorem padS_apply (x : FVec Ideal S16x60 .f32) (p : Fin 16) (b : Fin 2) (q : Fin 30) :
    padS x (ix2 ⟨p.val * 64 + b.val * 32 + q.val, by omega⟩ ⟨0, by decide⟩) = x (ix2 p ⟨b.val * 30 + q.val, by omega⟩) := by
  unfold padS
  pointwise
  rw [dif_pos (by omega)]
  exact congrArg (fun n => x (ix2 p n)) (Fin.ext (by simp only; omega))

theorem prodv_apply (fc : S1024x2560.Idx → EReal) (fs : S1024x128.Idx → EReal) (fw : S16x2560x1280.Idx → EReal) (fws : S16x1280.Idx → EReal)
    (p : ℕ) (hp : p < 16) (n : Fin 64) (ch : Fin 1280) :
    prodv fc fs fw fws p hp (ix2 n ch)
      = (∑ k : Fin 2560, fc (ix2 ⟨64 * p + n.val, by omega⟩ k) * fw (ix3 ⟨p, hp⟩ k ch)) * fs (ix2 ⟨64 * p + n.val, by omega⟩ ⟨0, by decide⟩)
        * fws (ix2 ⟨p, hp⟩ ch) := by
  unfold prodv k0_pay1
  pointwise
  rfl

/-! ## A tap's product, and the accumulators -/

section
variable (xc : Vec Ideal S16x60x2560 .fp8e4m3) (xs : FVec Ideal S16x60 .f32) (wc : Vec Ideal S16x2560x1280 .fp8e4m3) (ws : FVec Ideal S16x1280 .f32)
variable (b : Fin 2) (q : Fin 30) (ch : Fin 1280)

/-- A tap's product at a row that an output reads is the reference's. -/
theorem prodv_mv (p : ℕ) (hp : p < 16) :
    prodv (padC xc) (padS xs) wc ws p hp (ix2 ⟨32 * b.val + q.val, by omega⟩ ch) = mv xc xs wc ws ⟨p, hp⟩ ⟨b.val * 30 + q.val, by omega⟩ ch := by
  rw [prodv_apply]
  have e : (⟨64 * p + (32 * b.val + q.val), by omega⟩ : Fin 1024) = ⟨(⟨p, hp⟩ : Fin 16).val * 64 + b.val * 32 + q.val, by simp only; omega⟩ :=
    Fin.ext (by simp only; omega)
  have hc : ∀ k : Fin 2560, padC xc (ix2 ⟨64 * p + (32 * b.val + q.val), by omega⟩ k) = xc (ix3 ⟨p, hp⟩ ⟨b.val * 30 + q.val, by omega⟩ k) := fun k =>
    (congrArg (fun n => padC xc (ix2 n k)) e).trans (padC_apply xc ⟨p, hp⟩ b q k)
  have hs : padS xs (ix2 ⟨64 * p + (32 * b.val + q.val), by omega⟩ ⟨0, by decide⟩) = xs (ix2 ⟨p, hp⟩ ⟨b.val * 30 + q.val, by omega⟩) :=
    (congrArg (fun n => padS xs (ix2 n ⟨0, by decide⟩)) e).trans (padS_apply xs ⟨p, hp⟩ b q)
  rw [hs]
  simp only [hc]
  rfl

theorem A0_tap : A0 (padC xc) (padS xs) wc ws (ix2 ⟨32 * b.val + q.val, by omega⟩ ch)
    = tap00 fun p => mv xc xs wc ws p ⟨b.val * 30 + q.val, by omega⟩ ch := by
  unfold A0 tap00; simp only [addf_apply, prodv_mv]; rfl
theorem A1_tap : A1 (padC xc) (padS xs) wc ws (ix2 ⟨32 * b.val + q.val, by omega⟩ ch)
    = tap01 fun p => mv xc xs wc ws p ⟨b.val * 30 + q.val, by omega⟩ ch := by
  unfold A1 tap01; simp only [addf_apply, subf_apply, prodv_mv]; rfl
theorem A2_tap : A2 (padC xc) (padS xs) wc ws (ix2 ⟨32 * b.val + q.val, by omega⟩ ch)
    = tap10 fun p => mv xc xs wc ws p ⟨b.val * 30 + q.val, by omega⟩ ch := by
  unfold A2 tap10; simp only [addf_apply, subf_apply, prodv_mv]; rfl
theorem A3_tap : A3 (padC xc) (padS xs) wc ws (ix2 ⟨32 * b.val + q.val, by omega⟩ ch)
    = tap11 fun p => mv xc xs wc ws p ⟨b.val * 30 + q.val, by omega⟩ ch := by
  unfold A3 tap11; simp only [addf_apply, subf_apply, prodv_mv]; rfl
end

/-! ## The result -/

theorem outv_apply (y : Vec Ideal S12x200x128 .bf16) (b : Fin 2) (h : Fin 12) (w : Fin 10) (t : Fin 10) (l : Fin 128) :
    outv y (ix4 b h w ⟨t.val * 128 + l.val, by omega⟩) = y (ix3 h ⟨w.val * 20 + t.val * 2 + b.val, by omega⟩ l) := by
  unfold outv
  pointwise

/-- The staged rows at a pixel: column `2 wp + s` of image `b` comes from the accumulator of its parity. -/
theorem yv_pixel (B0 B1 : FVec Ideal S64x1280 .f32) (b : Fin 2) (hp : Fin 6) (r : Fin 2) (wp : Fin 5) (s : Fin 2) (t : Fin 10) (l : Fin 128) :
    yv B0 B1 (ix3 ⟨hp.val * 2 + r.val, by omega⟩ ⟨(wp.val * 2 + s.val) * 20 + t.val * 2 + b.val, by omega⟩ l)
      = (if s = 0 then B0 else B1) (ix2 ⟨32 * b.val + (hp.val * 5 + wp.val), by omega⟩ ⟨t.val * 128 + l.val, by omega⟩) := by
  have hs : (((wp.val * 2 + s.val) * 20 + t.val * 2 + b.val) / 20 % 2 = 0) = (s = 0) := propext (by
    rw [Fin.ext_iff]; show _ ↔ s.val = 0; omega)
  show (if (((wp.val * 2 + s.val) * 20 + t.val * 2 + b.val) / 20 % 2 = 0) then B0 else B1) _ = _
  simp only [hs]
  refine congrArg (if s = 0 then B0 else B1) (funext fun a => Fin.ext ?_)
  match a with
  | ⟨0, _⟩ =>
    exact (by
      show 32 * (((wp.val * 2 + s.val) * 20 + t.val * 2 + b.val) % 2) + (5 * ((hp.val * 2 + r.val) / 2) + ((wp.val * 2 + s.val) * 20 + t.val * 2 + b.val) / 40)
        = 32 * b.val + (hp.val * 5 + wp.val)
      omega)
  | ⟨1, _⟩ =>
    exact (by
      show 128 * (((wp.val * 2 + s.val) * 20 + t.val * 2 + b.val) / 2 % 10) + l.val = t.val * 128 + l.val
      omega)

variable (xc : Vec Ideal S16x60x2560 .fp8e4m3) (xs : FVec Ideal S16x60 .f32) (wc : Vec Ideal S16x2560x1280 .fp8e4m3) (ws : FVec Ideal S16x1280 .f32)

/-- The kernel's result at a pixel: the same signed sum of the same products as the reference's. -/
theorem ker_apply (b : Fin 2) (hp : Fin 6) (r : Fin 2) (wp : Fin 5) (s : Fin 2) (ch : Fin 1280) :
    outv (yAll (padC xc) (padS xs) wc ws) (ix4 b ⟨hp.val * 2 + r.val, by omega⟩ ⟨wp.val * 2 + s.val, by omega⟩ ch)
      = tap r s fun p => mv xc xs wc ws p ⟨b.val * 30 + hp.val * 5 + wp.val, by omega⟩ ch := by
  obtain ⟨t, l, rfl⟩ : ∃ (t : Fin 10) (l : Fin 128), ch = ⟨t.val * 128 + l.val, by omega⟩ :=
    ⟨⟨ch.val / 128, by omega⟩, ⟨ch.val % 128, by omega⟩, Fin.ext (by simp only; omega)⟩
  rw [outv_apply]
  have hn : (⟨b.val * 30 + hp.val * 5 + wp.val, by omega⟩ : Fin 60) = ⟨b.val * 30 + (⟨hp.val * 5 + wp.val, by omega⟩ : Fin 30).val, by simp only; omega⟩ :=
    Fin.ext (by simp only; omega)
  rw [hn]
  have hr : ((hp.val * 2 + r.val) % 2 = 0) = (r = 0) := propext (by rw [Fin.ext_iff]; show _ ↔ r.val = 0; omega)
  show (if ((hp.val * 2 + r.val) % 2 = 0) then yv _ _ _ else yv _ _ _) = _
  simp only [hr]
  rw [yv_pixel, yv_pixel]
  unfold tap
  match r, s with
  | ⟨0, _⟩, ⟨0, _⟩ => exact A0_tap xc xs wc ws b ⟨hp.val * 5 + wp.val, by omega⟩ _
  | ⟨0, _⟩, ⟨1, _⟩ => exact A1_tap xc xs wc ws b ⟨hp.val * 5 + wp.val, by omega⟩ _
  | ⟨1, _⟩, ⟨0, _⟩ => exact A2_tap xc xs wc ws b ⟨hp.val * 5 + wp.val, by omega⟩ _
  | ⟨1, _⟩, ⟨1, _⟩ => exact A3_tap xc xs wc ws b ⟨hp.val * 5 + wp.val, by omega⟩ _

end Cert.KernelIdeal.HandV

end
-- ==== Proof.Equal.lean ====
/- Kernel and reference compute the same array. -/
module

public import proofs.«01_k».proof.Defs
public import proofs.«01_k».proof.Proof.KValue

@[expose] public section

noncomputable section

namespace Cert.Proof

open Idealize.ShloMosaic Idealize.ShloMosaic.TcCoe
open Cert.KernelIdeal.HandV (outv padC padS ker_apply codes_eq scales_eq)
open Cert.KernelIdeal.Hand (yAll)
open Cert.ReferenceIdeal.Hand (ref_apply)

/-- Every index of the result is a pixel of a 2x2 tile: tile row and row in it, tile column and column in it. -/
theorem eq_tile (j : Cert.KernelIdeal.S2x12x10x1280.Idx) :
    ∃ (b : Fin 2) (hp : Fin 6) (r : Fin 2) (wp : Fin 5) (s : Fin 2) (ch : Fin 1280),
      j = ix4 b ⟨hp.val * 2 + r.val, by omega⟩ ⟨wp.val * 2 + s.val, by omega⟩ ch := by
  have h1 : (j 1).val < 12 := (j 1).isLt
  have h2 : (j 2).val < 10 := (j 2).isLt
  refine ⟨j 0, ⟨(j 1).val / 2, by omega⟩, ⟨(j 1).val % 2, by omega⟩, ⟨(j 2).val / 2, by omega⟩, ⟨(j 2).val % 2, by omega⟩, j 3, ?_⟩
  refine (eq_ix4 j).trans ?_
  have e1 : j 1 = (⟨(j 1).val / 2 * 2 + (j 1).val % 2, by omega⟩ : Fin 12) := Fin.ext (by simp only; omega)
  have e2 : j 2 = (⟨(j 2).val / 2 * 2 + (j 2).val % 2, by omega⟩ : Fin 10) := Fin.ext (by simp only; omega)
  exact congrArg₂ (fun (a : Fin 12) (d : Fin 10) => (ix4 (j 0) a d (j 3) : Cert.KernelIdeal.S2x12x10x1280.Idx)) e1 e2

/-- Over the extended reals kernel and reference, given the same arguments, end with the same result. -/
theorem algebraic : Cert.algebraic_KernelIdeal_ReferenceIdeal := by
  pair_intro
  · run_from Cert.KernelIdeal.HandV.runV m g
  · run_from Cert.ReferenceIdeal.Value.run m' g'
    obtain ⟨h0, h1, h2, h3⟩ := hagree c
    rw [codes_eq m c, scales_eq m c, Cert.KernelIdeal.Gen.V_main_arg2 m c, Cert.KernelIdeal.Gen.V_main_arg3 m c]
    funext j
    obtain ⟨b, hp, r, wp, s, ch, rfl⟩ := eq_tile j
    refine (ref_apply m' c b hp r wp s ch).trans ?_
    rw [h0, h1, h2, h3]
    exact (ker_apply _ _ _ _ b hp r wp s ch).symm

end Cert.Proof

end
-- ==== Proof.QRun.lean ====
/- The run of the quantiser's body: what it needs and what it leaves in the two results. -/
module

public import proofs.«01_k».proof.Proof.Gen.Quantise.Launch
public import proofs.«01_k».proof.Proof.Gen.Quantise.Skeleton
public import proofs.«01_k».proof.Proof.Gen.Quantise.Points
public import proofs.«01_k».proof.Proof.Gen.Quantise.Frame
public import Idealize.ShloMosaic.Lib.Pipeline.FrameBody
public import Idealize.ShloMosaic.Lib.Pipeline.FrameSuffixV
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Quantise.Hand

open Cert.Quantise Cert.Quantise.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A buffer of core `c`, whole, at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The body's own semaphore cells: one for the input, two for the results. -/
abbrev osem0 : Fin 3 → SemLoc sig := fun j => SemLoc.dma (j : Fin 3)
theorem ownSemFacts0 : Pipeline.OwnSemFacts cfg0.spec osem0 := by decide

abbrev sem0 (c : Dev nD) (j : Fin 3) : sProp 𝕄 := semVal ((c : Thread nD τ), SemLoc.dma j) 0

/-- The body's run: what it needs, and what it leaves in the codes and in the scales. -/
noncomputable def kernelRun0 (c : Dev nD) (fv : Buf (Elt F) ((c : Thread nD τ).loc main_v2))
    (fc : Buf (Elt F) ((c : Thread nD τ).loc main_v3_0)) (fs : Buf (Elt F) ((c : Thread nD τ).loc main_v3_1))
    (f0 : Buf (Elt F) ((c : Thread nD τ).loc cc0_scratch0)) (f1 : Buf (Elt F) ((c : Thread nD τ).loc cc0_scratch1)) (f2 : Buf (Elt F) ((c : Thread nD τ).loc cc0_scratch2)) (f3 : Buf (Elt F) ((c : Thread nD τ).loc cc0_scratch3)) :
    { G : Buf (Elt F) ((c : Thread nD τ).loc main_v3_0) × Buf (Elt F) ((c : Thread nD τ).loc main_v3_1) //
      ∀ (W : Waits sig Unit) (K : PUnit → sProp 𝕄),
        iprop(pt c (Memref.whole cc0_scratch0) f0 ∗ pt c (Memref.whole cc0_scratch1) f1 ∗ pt c (Memref.whole cc0_scratch2) f2 ∗ pt c (Memref.whole cc0_scratch3) f3
            ∗ sem0 c 0 ∗ sem0 c 1 ∗ sem0 c 2
            ∗ pt c (Memref.whole main_v2) fv ∗ pt c (Memref.whole main_v3_0) fc ∗ pt c (Memref.whole main_v3_1) fs
            ∗ owes (c : Thread nD τ) 0 W
            ∗ (iprop((∃ f, pt c (Memref.whole cc0_scratch0) f) ∗ (∃ f, pt c (Memref.whole cc0_scratch1) f) ∗ (∃ f, pt c (Memref.whole cc0_scratch2) f) ∗ (∃ f, pt c (Memref.whole cc0_scratch3) f)
                ∗ sem0 c 0 ∗ sem0 c 1 ∗ sem0 c 2
                ∗ pt c (Memref.whole main_v2) fv ∗ pt c (Memref.whole main_v3_0) G.1 ∗ pt c (Memref.whole main_v3_1) G.2
                ∗ (∃ W', owes (c : Thread nD τ) 0 W')) -∗ K ⟨⟩))
          ⊢ wp frame (wpE (defs₀ (F := F)) Variants.none c none) Set.univ (bodyAt0 t0_0) K } := by
  refine ⟨⟨?_, ?_⟩, fun W K => ?run⟩
  case run =>
    unfold bodyAt0
    sl_unfold [cc0_winograd_fp8_quantise]
    iintro ⟨H0, H1, H2, H3, Q0, Q1, Q2, A0, A1, A2, HW, Hk⟩
    sl_exec_parts
    sl_step
    iapply Hk
    isplitl [H0]; · iexists _; iexact H0
    isplitl [H1]; · iexists _; iexact H1
    isplitl [H2]; · iexists _; iexact H2
    isplitl [H3]; · iexists _; iexact H3
    isplitl [Q0]; · iexact Q0
    isplitl [Q1]; · iexact Q1
    isplitl [Q2]; · iexact Q2
    isplitl [A0]; · iexact A0
    isplitl [A1]; · iexact A1
    isplitl [A2]; · iexact A2
    iexists _; iexact HW

end Cert.Quantise.Hand

end
-- ==== Proof.QFrame.lean ====
/- The frame of the quantiser. -/
module

public import proofs.«01_k».proof.Proof.QRun

@[expose] public section

set_option maxRecDepth 16384

noncomputable section

namespace Cert.Quantise.Hand

open Cert.Quantise Cert.Quantise.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The arrays in HBM that the body reads, the two it writes, and those the lines after it write. -/
def H0 : Finset (Ref sig .tc) := {main_v2}
def R0 : Finset (Ref sig .tc) := {main_v3_0, main_v3_1}
def T0 : Finset (Ref sig .tc) := {main_v4, main_v5, main_v6}
theorem H0_sub : H0 ⊆ Pipeline.restRefs sig cfg0.spec := by decide
theorem R0_sub : R0 ⊆ Pipeline.restRefs sig cfg0.spec \ H0 := by decide

theorem ownSemFactsD : Pipeline.OwnSemFacts (cfgs 0).spec osem0 := ownSemFacts0

theorem sfx_T : ∀ ops ∈ ([hostOps1] : List (List (HloOp τ sig (Elt F)))), ∀ op ∈ ops, ∀ b : Ref sig .tc, Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl | rfl | rfl
  all_goals
    simp only [StableHlo.nullary_writes, StableHlo.unary_writes, StableHlo.binary_writes, StableHlo.reshape_writes, Finset.mem_singleton] at hb
    have hb' := Proc.devRef_injective _ hb
    subst hb'
    decide

theorem ownSems00_eq (c : Dev nD) :
    (Pipeline.ownSems0 (Ix := Unit) (Name := ℕ) (U := Pipeline.UD sig nD τ) (Lvl := ℕ) (Val := Elt F) (τ := τ) osem0 c : sProp 𝕄)
      = iprop(sem0 c 0 ∗ sem0 c 1 ∗ sem0 c 2) := by
  rw [Pipeline.ownSems0_eq_of_list c osem0 [0, 1, 2] (by decide) (by decide)]; rfl
theorem hbmPts0_eq (c : Dev nD) (V : (b : Ref sig .tc) → Buf (Elt F) ((c : Thread nD τ).loc b)) :
    (bigSep H0 (fun b => ((c : Thread nD τ).loc b) ↦{fullShare} V b) : sProp 𝕄)
      = iprop(pt c (Memref.whole main_v2) (V main_v2)) := by
  rw [BI.bigSep_eq_bigSepL_of_eq [main_v2] (by decide) (by decide)]; rfl
theorem resPts0_eq (c : Dev nD) (V : (b : Ref sig .tc) → Buf (Elt F) ((c : Thread nD τ).loc b)) :
    (bigSep R0 (fun b => ((c : Thread nD τ).loc b) ↦{fullShare} V b) : sProp 𝕄) = iprop(pt c (Memref.whole main_v3_0) (V main_v3_0) ∗ pt c (Memref.whole main_v3_1) (V main_v3_1)) := by
  rw [BI.bigSep_eq_bigSepL_of_eq [main_v3_0, main_v3_1] (by decide) (by decide)]; rfl
theorem ownedPts0_eq (c : Dev nD) :
    (Pipeline.owned R0 c : sProp 𝕄) = iprop((∃ f, pt c (Memref.whole main_v3_0) f) ∗ (∃ f, pt c (Memref.whole main_v3_1) f)) := by
  unfold Pipeline.owned; rw [BI.bigSep_eq_bigSepL_of_eq [main_v3_0, main_v3_1] (by decide) (by decide)]; rfl
theorem scoped0_eq (c : Dev nD) :
    (Pipeline.scopedRest (Ix := Unit) (Name := ℕ) (U := Pipeline.UD sig nD τ) (Lvl := ℕ) (Val := Elt F) (cfg0.spec) c : sProp 𝕄)
      = iprop((∃ f, pt c (Memref.whole cc0_scratch0) f) ∗ (∃ f, pt c (Memref.whole cc0_scratch1) f) ∗ (∃ f, pt c (Memref.whole cc0_scratch2) f) ∗ (∃ f, pt c (Memref.whole cc0_scratch3) f)) := by
  rw [scopedRest0_eq]

/-! ## The pipeline's proof data: the region stages no window, its buffers are the invariant's -/

def dats (_ : Fin 1) (c : Dev nD) : Dat τ (Elt F) Unit ℕ (Pipeline.UD sig nD τ) ℕ cfg0 c where
  A w := w.elim0
  after w t := w.elim0
  Φ _ := Pipeline.ΦDR osem0 cfg0.spec H0 R0 (V m) c
  q _ := fullShare
  owed _ := 0

def bodyPre (c : Dev nD) (t : Fin cfg0.N) : sProp 𝕄 := iprop((dats m 0 c).Φ t.castSucc ∗ (dats m 0 c).owesAt () t.castSucc ∗ emp)
def bodyPost (c : Dev nD) (t : Fin cfg0.N) : sProp 𝕄 := iprop((dats m 0 c).Φ t.succ ∗ (dats m 0 c).owesAt () t.succ ∗ emp)

theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost
  rw [show (dats m 0 c).Φ t0_0.succ = Pipeline.ΦDR osem0 cfg0.spec H0 R0 (V m) c from rfl,
    show (dats m 0 c).Φ t0_0.castSucc = Pipeline.ΦDR osem0 cfg0.spec H0 R0 (V m) c from rfl, Pipeline.ΦDR_eq, scoped0_eq, ownSems00_eq, hbmPts0_eq, ownedPts0_eq]
  unfold Dat.owesAt Pipeline.owesWithin
  rw [show (dats m 0 c).owed t0_0.castSucc = 0 from rfl, show (dats m 0 c).owed t0_0.succ = 0 from rfl]
  iintro ⟨⟨⟨⟨%f0, H0⟩, ⟨%f1, H1⟩, ⟨%f2, H2⟩, ⟨%f3, H3⟩⟩, Hg, ⟨Q0, Q1, Q2⟩, A0, ⟨⟨%fc, A1⟩, ⟨%fs, A2⟩⟩⟩, ⟨%W, -, HW⟩, -⟩
  iapply ((kernelRun0 c (V m c main_v2) fc fs f0 f1 f2 f3).2 W _)
  isplitl [H0]; · iexact H0
  isplitl [H1]; · iexact H1
  isplitl [H2]; · iexact H2
  isplitl [H3]; · iexact H3
  isplitl [Q0]; · iexact Q0
  isplitl [Q1]; · iexact Q1
  isplitl [Q2]; · iexact Q2
  isplitl [A0]; · iexact A0
  isplitl [A1]; · iexact A1
  isplitl [A2]; · iexact A2
  isplitl [HW]; · iexact HW
  iintro ⟨H0, H1, H2, H3, Q0, Q1, Q2, A0, A1, A2, ⟨%W', HW'⟩⟩
  isplitl [H0 H1 H2 H3 Q0 Q1 Q2 A0 A1 A2 Hg]
  · isplitl [H0 H1 H2 H3]
    · isplitl [H0]; · iexact H0
      isplitl [H1]; · iexact H1
      isplitl [H2]; · iexact H2
      iexact H3
    isplitl [Hg]; · iexact Hg
    isplitl [Q0 Q1 Q2]
    · isplitl [Q0]; · iexact Q0
      isplitl [Q1]; · iexact Q1
      iexact Q2
    isplitl [A0]; · iexact A0
    isplitl [A1]
    · iexists _; iexact A1
    iexists _; iexact A2
  isplitl [HW']
  · iexists W'; isplitr; · ipureintro; exact fun _ _ => Or.inl trivial
    iexact HW'
  iempintro

theorem bigSep_none (Φ : Fin cfg0.W → sProp 𝕄) : bigSep Finset.univ Φ = iprop(emp) := by
  rw [show (Finset.univ : Finset (Fin cfg0.W)) = ∅ from rfl, bigSep_empty]; rfl

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_none, bigSep_none, defs₀_row]
  exact triple_restated (sound_body m c t) rfl .rfl fun _ => .rfl

/-! ## The run and the frame -/

set_option backward.isDefEq.respectTransparency.types false in
theorem run_main : θ_run defs (onTc (τ := τ) (main (F := F))) (s₀ m ρ)
    (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFactsD H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_T)
    (hmain := hmainD m Variants.none) (hA := fun _ w => w.elim0) (hin := fun _ => .rfl) (hout := fun _ => .rfl) (hQ' := fun _ h => h)

/-- The frame: the program ends, nothing faults, its argument is unchanged and every semaphore counts zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c =>
      ((h.1 c).2 main_arg0 (Finset.mem_sdiff.mpr ⟨Pipeline.mem_restRefs_of main_arg0 (by decide) (by decide), by decide⟩)).trans (V_main_arg0 m c), h.2⟩) (run_main m ρ)

end Cert.Quantise.Hand

end
-- ==== Proof.QIRun.lean ====
/- The run of the quantiser's body: what it needs and what it leaves in the two results. -/
module

public import proofs.«01_k».proof.Proof.Gen.QuantiseIdeal.Launch
public import proofs.«01_k».proof.Proof.Gen.QuantiseIdeal.Skeleton
public import proofs.«01_k».proof.Proof.Gen.QuantiseIdeal.Points
public import proofs.«01_k».proof.Proof.Gen.QuantiseIdeal.Frame
public import Idealize.ShloMosaic.Lib.Pipeline.FrameBody
public import Idealize.ShloMosaic.Lib.Pipeline.FrameSuffixV
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.QuantiseIdeal.Hand

open Cert.QuantiseIdeal Cert.QuantiseIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A buffer of core `c`, whole, at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The body's own semaphore cells: one for the input, two for the results. -/
abbrev osem0 : Fin 3 → SemLoc sig := fun j => SemLoc.dma (j : Fin 3)
theorem ownSemFacts0 : Pipeline.OwnSemFacts cfg0.spec osem0 := by decide

abbrev sem0 (c : Dev nD) (j : Fin 3) : sProp 𝕄 := semVal ((c : Thread nD τ), SemLoc.dma j) 0

/-- The body's run: what it needs, and what it leaves in the codes and in the scales. -/
noncomputable def kernelRun0 (c : Dev nD) (fv : Buf (Elt F) ((c : Thread nD τ).loc main_v2))
    (fc : Buf (Elt F) ((c : Thread nD τ).loc main_v3_0)) (fs : Buf (Elt F) ((c : Thread nD τ).loc main_v3_1))
    (f0 : Buf (Elt F) ((c : Thread nD τ).loc cc0_scratch0)) (f1 : Buf (Elt F) ((c : Thread nD τ).loc cc0_scratch1)) (f2 : Buf (Elt F) ((c : Thread nD τ).loc cc0_scratch2)) (f3 : Buf (Elt F) ((c : Thread nD τ).loc cc0_scratch3)) :
    { G : Buf (Elt F) ((c : Thread nD τ).loc main_v3_0) × Buf (Elt F) ((c : Thread nD τ).loc main_v3_1) //
      ∀ (W : Waits sig Unit) (K : PUnit → sProp 𝕄),
        iprop(pt c (Memref.whole cc0_scratch0) f0 ∗ pt c (Memref.whole cc0_scratch1) f1 ∗ pt c (Memref.whole cc0_scratch2) f2 ∗ pt c (Memref.whole cc0_scratch3) f3
            ∗ sem0 c 0 ∗ sem0 c 1 ∗ sem0 c 2
            ∗ pt c (Memref.whole main_v2) fv ∗ pt c (Memref.whole main_v3_0) fc ∗ pt c (Memref.whole main_v3_1) fs
            ∗ owes (c : Thread nD τ) 0 W
            ∗ (iprop((∃ f, pt c (Memref.whole cc0_scratch0) f) ∗ (∃ f, pt c (Memref.whole cc0_scratch1) f) ∗ (∃ f, pt c (Memref.whole cc0_scratch2) f) ∗ (∃ f, pt c (Memref.whole cc0_scratch3) f)
                ∗ sem0 c 0 ∗ sem0 c 1 ∗ sem0 c 2
                ∗ pt c (Memref.whole main_v2) fv ∗ pt c (Memref.whole main_v3_0) G.1 ∗ pt c (Memref.whole main_v3_1) G.2
                ∗ (∃ W', owes (c : Thread nD τ) 0 W')) -∗ K ⟨⟩))
          ⊢ wp frame (wpE (defs₀ (F := F)) Variants.none c none) Set.univ (bodyAt0 t0_0) K } := by
  refine ⟨⟨?_, ?_⟩, fun W K => ?run⟩
  case run =>
    unfold bodyAt0
    sl_unfold [cc0_winograd_fp8_quantise]
    iintro ⟨H0, H1, H2, H3, Q0, Q1, Q2, A0, A1, A2, HW, Hk⟩
    sl_exec_parts
    sl_step
    iapply Hk
    isplitl [H0]; · iexists _; iexact H0
    isplitl [H1]; · iexists _; iexact H1
    isplitl [H2]; · iexists _; iexact H2
    isplitl [H3]; · iexists _; iexact H3
    isplitl [Q0]; · iexact Q0
    isplitl [Q1]; · iexact Q1
    isplitl [Q2]; · iexact Q2
    isplitl [A0]; · iexact A0
    isplitl [A1]; · iexact A1
    isplitl [A2]; · iexact A2
    iexists _; iexact HW

end Cert.QuantiseIdeal.Hand

end
-- ==== Proof.QIFrame.lean ====
/- The frame of the quantiser. -/
module

public import proofs.«01_k».proof.Proof.QIRun

@[expose] public section

set_option maxRecDepth 16384

noncomputable section

namespace Cert.QuantiseIdeal.Hand

open Cert.QuantiseIdeal Cert.QuantiseIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The arrays in HBM that the body reads, the two it writes, and those the lines after it write. -/
def H0 : Finset (Ref sig .tc) := {main_v2}
def R0 : Finset (Ref sig .tc) := {main_v3_0, main_v3_1}
def T0 : Finset (Ref sig .tc) := {main_v4, main_v5, main_v6}
theorem H0_sub : H0 ⊆ Pipeline.restRefs sig cfg0.spec := by decide
theorem R0_sub : R0 ⊆ Pipeline.restRefs sig cfg0.spec \ H0 := by decide

theorem ownSemFactsD : Pipeline.OwnSemFacts (cfgs 0).spec osem0 := ownSemFacts0

theorem sfx_T : ∀ ops ∈ ([hostOps1] : List (List (HloOp τ sig (Elt F)))), ∀ op ∈ ops, ∀ b : Ref sig .tc, Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl | rfl | rfl
  all_goals
    simp only [StableHlo.nullary_writes, StableHlo.unary_writes, StableHlo.binary_writes, StableHlo.reshape_writes, Finset.mem_singleton] at hb
    have hb' := Proc.devRef_injective _ hb
    subst hb'
    decide

theorem ownSems00_eq (c : Dev nD) :
    (Pipeline.ownSems0 (Ix := Unit) (Name := ℕ) (U := Pipeline.UD sig nD τ) (Lvl := ℕ) (Val := Elt F) (τ := τ) osem0 c : sProp 𝕄)
      = iprop(sem0 c 0 ∗ sem0 c 1 ∗ sem0 c 2) := by
  rw [Pipeline.ownSems0_eq_of_list c osem0 [0, 1, 2] (by decide) (by decide)]; rfl
theorem hbmPts0_eq (c : Dev nD) (V : (b : Ref sig .tc) → Buf (Elt F) ((c : Thread nD τ).loc b)) :
    (bigSep H0 (fun b => ((c : Thread nD τ).loc b) ↦{fullShare} V b) : sProp 𝕄)
      = iprop(pt c (Memref.whole main_v2) (V main_v2)) := by
  rw [BI.bigSep_eq_bigSepL_of_eq [main_v2] (by decide) (by decide)]; rfl
theorem resPts0_eq (c : Dev nD) (V : (b : Ref sig .tc) → Buf (Elt F) ((c : Thread nD τ).loc b)) :
    (bigSep R0 (fun b => ((c : Thread nD τ).loc b) ↦{fullShare} V b) : sProp 𝕄) = iprop(pt c (Memref.whole main_v3_0) (V main_v3_0) ∗ pt c (Memref.whole main_v3_1) (V main_v3_1)) := by
  rw [BI.bigSep_eq_bigSepL_of_eq [main_v3_0, main_v3_1] (by decide) (by decide)]; rfl
theorem ownedPts0_eq (c : Dev nD) :
    (Pipeline.owned R0 c : sProp 𝕄) = iprop((∃ f, pt c (Memref.whole main_v3_0) f) ∗ (∃ f, pt c (Memref.whole main_v3_1) f)) := by
  unfold Pipeline.owned; rw [BI.bigSep_eq_bigSepL_of_eq [main_v3_0, main_v3_1] (by decide) (by decide)]; rfl
theorem scoped0_eq (c : Dev nD) :
    (Pipeline.scopedRest (Ix := Unit) (Name := ℕ) (U := Pipeline.UD sig nD τ) (Lvl := ℕ) (Val := Elt F) (cfg0.spec) c : sProp 𝕄)
      = iprop((∃ f, pt c (Memref.whole cc0_scratch0) f) ∗ (∃ f, pt c (Memref.whole cc0_scratch1) f) ∗ (∃ f, pt c (Memref.whole cc0_scratch2) f) ∗ (∃ f, pt c (Memref.whole cc0_scratch3) f)) := by
  rw [scopedRest0_eq]

/-! ## The pipeline's proof data: the region stages no window, its buffers are the invariant's -/

def dats (_ : Fin 1) (c : Dev nD) : Dat τ (Elt F) Unit ℕ (Pipeline.UD sig nD τ) ℕ cfg0 c where
  A w := w.elim0
  after w t := w.elim0
  Φ _ := Pipeline.ΦDR osem0 cfg0.spec H0 R0 (V m) c
  q _ := fullShare
  owed _ := 0

def bodyPre (c : Dev nD) (t : Fin cfg0.N) : sProp 𝕄 := iprop((dats m 0 c).Φ t.castSucc ∗ (dats m 0 c).owesAt () t.castSucc ∗ emp)
def bodyPost (c : Dev nD) (t : Fin cfg0.N) : sProp 𝕄 := iprop((dats m 0 c).Φ t.succ ∗ (dats m 0 c).owesAt () t.succ ∗ emp)

theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost
  rw [show (dats m 0 c).Φ t0_0.succ = Pipeline.ΦDR osem0 cfg0.spec H0 R0 (V m) c from rfl,
    show (dats m 0 c).Φ t0_0.castSucc = Pipeline.ΦDR osem0 cfg0.spec H0 R0 (V m) c from rfl, Pipeline.ΦDR_eq, scoped0_eq, ownSems00_eq, hbmPts0_eq, ownedPts0_eq]
  unfold Dat.owesAt Pipeline.owesWithin
  rw [show (dats m 0 c).owed t0_0.castSucc = 0 from rfl, show (dats m 0 c).owed t0_0.succ = 0 from rfl]
  iintro ⟨⟨⟨⟨%f0, H0⟩, ⟨%f1, H1⟩, ⟨%f2, H2⟩, ⟨%f3, H3⟩⟩, Hg, ⟨Q0, Q1, Q2⟩, A0, ⟨⟨%fc, A1⟩, ⟨%fs, A2⟩⟩⟩, ⟨%W, -, HW⟩, -⟩
  iapply ((kernelRun0 c (V m c main_v2) fc fs f0 f1 f2 f3).2 W _)
  isplitl [H0]; · iexact H0
  isplitl [H1]; · iexact H1
  isplitl [H2]; · iexact H2
  isplitl [H3]; · iexact H3
  isplitl [Q0]; · iexact Q0
  isplitl [Q1]; · iexact Q1
  isplitl [Q2]; · iexact Q2
  isplitl [A0]; · iexact A0
  isplitl [A1]; · iexact A1
  isplitl [A2]; · iexact A2
  isplitl [HW]; · iexact HW
  iintro ⟨H0, H1, H2, H3, Q0, Q1, Q2, A0, A1, A2, ⟨%W', HW'⟩⟩
  isplitl [H0 H1 H2 H3 Q0 Q1 Q2 A0 A1 A2 Hg]
  · isplitl [H0 H1 H2 H3]
    · isplitl [H0]; · iexact H0
      isplitl [H1]; · iexact H1
      isplitl [H2]; · iexact H2
      iexact H3
    isplitl [Hg]; · iexact Hg
    isplitl [Q0 Q1 Q2]
    · isplitl [Q0]; · iexact Q0
      isplitl [Q1]; · iexact Q1
      iexact Q2
    isplitl [A0]; · iexact A0
    isplitl [A1]
    · iexists _; iexact A1
    iexists _; iexact A2
  isplitl [HW']
  · iexists W'; isplitr; · ipureintro; exact fun _ _ => Or.inl trivial
    iexact HW'
  iempintro

theorem bigSep_none (Φ : Fin cfg0.W → sProp 𝕄) : bigSep Finset.univ Φ = iprop(emp) := by
  rw [show (Finset.univ : Finset (Fin cfg0.W)) = ∅ from rfl, bigSep_empty]; rfl

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_none, bigSep_none, defs₀_row]
  exact triple_restated (sound_body m c t) rfl .rfl fun _ => .rfl

/-! ## The run and the frame -/

set_option backward.isDefEq.respectTransparency.types false in
theorem run_main : θ_run defs (onTc (τ := τ) (main (F := F))) (s₀ m ρ)
    (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFactsD H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_T)
    (hmain := hmainD m Variants.none) (hA := fun _ w => w.elim0) (hin := fun _ => .rfl) (hout := fun _ => .rfl) (hQ' := fun _ h => h)

/-- The frame: the program ends, nothing faults, its argument is unchanged and every semaphore counts zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c =>
      ((h.1 c).2 main_arg0 (Finset.mem_sdiff.mpr ⟨Pipeline.mem_restRefs_of main_arg0 (by decide) (by decide), by decide⟩)).trans (V_main_arg0 m c), h.2⟩) (run_main m ρ)

end Cert.QuantiseIdeal.Hand

end
-- ==== Proof.QMath.lean ====
/- The scale of the quantiser as arithmetic: a search over the exponents on one side, the least power of two above a
   number on the other. -/
module

public import Idealize.ShloMosaic.PureOps.Ideal
public import Idealize.ShloMosaic.PureOps.Ideal.Laws
public import Mathlib.Data.Finset.Fold
public import Mathlib.Data.Nat.Find
public import Mathlib.Tactic.NormNum
public import Mathlib.Tactic.Linarith

@[expose] public section

set_option maxRecDepth 16384

noncomputable section

namespace Cert.Quant

open Idealize.ShloMosaic

/-! ## The powers of two -/

/-- The number whose f32 pattern has the exponent field `t` and no other bit. -/
def pw (t : ℕ) : EReal := Ideal.ofBits .f32 (BitVec.ofNat 32 t <<< (23#32))

theorem pw_bits : ∀ t : Fin 256, ((BitVec.ofNat 32 t.val <<< (23#32)).extractLsb' (8 + 23) 1 == 1#1) = false
    ∧ ((BitVec.ofNat 32 t.val <<< (23#32)).extractLsb' 23 8).toNat = t.val
    ∧ ((BitVec.ofNat 32 t.val <<< (23#32)).extractLsb' 0 23).toNat = 0 := by decide +kernel

theorem pw_zero : pw 0 = 0 := by
  obtain ⟨h1, h2, h3⟩ := pw_bits ⟨0, by decide⟩
  unfold pw Ideal.ofBits Ideal.ieee
  simp only [] at h1 h2 h3
  simp only [h1, h2, h3]
  norm_num

theorem pw_top : pw 255 = ⊤ := by
  obtain ⟨h1, h2, h3⟩ := pw_bits ⟨255, by decide⟩
  unfold pw Ideal.ofBits Ideal.ieee
  simp only [] at h1 h2 h3
  simp only [h1, h2, h3]
  norm_num

theorem pw_coe (t : ℕ) (h0 : 0 < t) (h1 : t < 255) : pw t = (((2 : ℝ) ^ ((t : ℤ) - 127) : ℝ) : EReal) := by
  obtain ⟨h2, h3, h4⟩ := pw_bits ⟨t, by omega⟩
  unfold pw Ideal.ofBits Ideal.ieee
  simp only [] at h2 h3 h4
  simp only [h2, h3, h4]
  rw [if_neg (by norm_num; omega), if_neg (by omega)]
  refine congrArg _ ?_
  have e : ((t : ℤ) - 127) = 23 + ((t : ℤ) - (2 ^ (8 - 1) - 1) - (23 : ℕ)) := by norm_num
  rw [e, zpow_add₀ (by norm_num)]
  norm_num

theorem pw_one : pw 127 = 1 := by
  rw [pw_coe 127 (by decide) (by decide)]; norm_num

theorem pw_lt (s t : ℕ) (h : s < t) (ht : t ≤ 255) : pw s < pw t := by
  rcases Nat.eq_zero_or_pos s with rfl | hs
  · rw [pw_zero]
    rcases Nat.lt_or_eq_of_le ht with h1 | rfl
    · rw [pw_coe t h h1]
      exact_mod_cast (by positivity : (0 : ℝ) < (2 : ℝ) ^ ((t : ℤ) - 127))
    · rw [pw_top]; exact EReal.zero_lt_top
  · rw [pw_coe s hs (by omega)]
    rcases Nat.lt_or_eq_of_le ht with h1 | rfl
    · rw [pw_coe t (by omega) h1, EReal.coe_lt_coe_iff]
      exact zpow_lt_zpow_right₀ (by norm_num) (by omega)
    · rw [pw_top]; exact EReal.coe_lt_top _

theorem pw_le (s t : ℕ) (h : s ≤ t) (ht : t ≤ 255) : pw s ≤ pw t := by
  rcases Nat.lt_or_eq_of_le h with h1 | rfl
  · exact (pw_lt s t h1 ht).le
  · exact le_rfl

/-- The greatest exponent field whose power does not exceed `q`. -/
def top (q : EReal) : ℕ := by
  classical exact Nat.findGreatest (fun t => pw t ≤ q) 255

theorem top_le (q : EReal) : top q ≤ 255 := by
  unfold top; exact Nat.findGreatest_le 255

theorem pw_le_iff {q : EReal} (hq : 0 ≤ q) (t : ℕ) (ht : t ≤ 255) : pw t ≤ q ↔ t ≤ top q := by
  classical
  constructor
  · intro h
    unfold top
    exact Nat.le_findGreatest ht h
  · intro h
    refine (pw_le t (top q) h (top_le q)).trans ?_
    unfold top
    exact Nat.findGreatest_spec (P := fun t => pw t ≤ q) (m := 0) (Nat.zero_le _) (by rw [pw_zero]; exact hq)

/-! ## The search -/

/-- One step: the bit `k` is kept when the power with it does not exceed `q`. -/
def step (q : EReal) (e k : BitVec 32) : BitVec 32 :=
  Scalar.select (Ideal.cmp .oge q (Ideal.ofBits .f32 (IntOp.shli .vector (IntOp.addi e k) 23#32))) (IntOp.addi e k) e

def search (q : EReal) : BitVec 32 :=
  step q (step q (step q (step q (step q (step q (step q (step q 0#32 128#32) 64#32) 32#32) 16#32) 8#32) 4#32) 2#32) 1#32

/-- The exponent of the scale. -/
def expo (q : EReal) : BitVec 32 :=
  Scalar.select (IntOp.ori (IntOp.cmpi .eq (search q) 0#32) (IntOp.cmpi .eq (search q) 255#32)) 0#32 (IntOp.subi (search q) 126#32)

def scale (q : EReal) : EReal := Ideal.ofBits .f32 (IntOp.shli .vector (IntOp.addi (expo q) 127#32) 23#32)
def inv (q : EReal) : EReal := Ideal.ofBits .f32 (IntOp.shli .vector (IntOp.subi 127#32 (expo q)) 23#32)

def nstep (T e k : ℕ) : ℕ := if e + k ≤ T then e + k else e
def nsearch (T : ℕ) : ℕ := nstep T (nstep T (nstep T (nstep T (nstep T (nstep T (nstep T (nstep T 0 128) 64) 32) 16) 8) 4) 2) 1

theorem nstep_le (T e k b : ℕ) (h : e ≤ b) : nstep T e k ≤ b + k := by unfold nstep; split <;> omega

theorem nsearch_eq : ∀ T : Fin 256, nsearch T.val = T.val := by decide +kernel

theorem shl (x : BitVec 32) : IntOp.shli .vector x 23#32 = x <<< (23#32) := rfl

theorem step_eq {q : EReal} (hq : 0 ≤ q) (e k : ℕ) (h : e + k ≤ 255) :
    step q (BitVec.ofNat 32 e) (BitVec.ofNat 32 k) = BitVec.ofNat 32 (nstep (top q) e k) := by
  have ha : IntOp.addi (BitVec.ofNat 32 e) (BitVec.ofNat 32 k) = BitVec.ofNat 32 (e + k) := (BitVec.ofNat_add e k).symm
  unfold step
  rw [ha, shl]
  have hc : Ideal.cmp .oge q (Ideal.ofBits .f32 (BitVec.ofNat 32 (e + k) <<< (23#32))) = BitVec.ofBool (decide (e + k ≤ top q)) := by
    show BitVec.ofBool (decide (pw (e + k) ≤ q)) = _
    exact congrArg BitVec.ofBool (decide_eq_decide.mpr (pw_le_iff hq (e + k) h))
  rw [hc]
  unfold nstep
  by_cases hh : e + k ≤ top q
  · simp [hh, Scalar.select]
  · simp [hh, Scalar.select]

theorem search_eq {q : EReal} (hq : 0 ≤ q) : search q = BitVec.ofNat 32 (top q) := by
  unfold search
  have h1 := nstep_le (top q) 0 128 0 le_rfl
  have h2 := nstep_le (top q) _ 64 _ h1
  have h3 := nstep_le (top q) _ 32 _ h2
  have h4 := nstep_le (top q) _ 16 _ h3
  have h5 := nstep_le (top q) _ 8 _ h4
  have h6 := nstep_le (top q) _ 4 _ h5
  have h7 := nstep_le (top q) _ 2 _ h6
  rw [step_eq hq 0 128 (by omega), step_eq hq _ 64 (by omega), step_eq hq _ 32 (by omega), step_eq hq _ 16 (by omega),
    step_eq hq _ 8 (by omega), step_eq hq _ 4 (by omega), step_eq hq _ 2 (by omega), step_eq hq _ 1 (by omega)]
  exact congrArg (BitVec.ofNat 32) (nsearch_eq ⟨top q, by have := top_le q; omega⟩)

theorem expo_bits : ∀ T : Fin 256,
    (let e := Scalar.select (IntOp.ori (IntOp.cmpi .eq (BitVec.ofNat 32 T.val) 0#32) (IntOp.cmpi .eq (BitVec.ofNat 32 T.val) 255#32)) 0#32 (IntOp.subi (BitVec.ofNat 32 T.val) 126#32)
     (T.val = 0 → e = 0#32) ∧ (0 < T.val → T.val < 253 → IntOp.addi e 127#32 = BitVec.ofNat 32 (T.val + 1) ∧ IntOp.subi 127#32 e = BitVec.ofNat 32 (253 - T.val))) := by
  decide +kernel

theorem scale_zero {q : EReal} (hq : 0 ≤ q) (h : top q = 0) : scale q = 1 ∧ inv q = 1 := by
  have e : expo q = 0#32 := by
    unfold expo; rw [search_eq hq, h]; exact (expo_bits ⟨0, by decide⟩).1 rfl
  unfold scale inv
  rw [e]
  exact ⟨pw_one, pw_one⟩

theorem scale_pos {q : EReal} (hq : 0 ≤ q) (h : 0 < top q) (h' : top q < 253) : scale q = pw (top q + 1) ∧ inv q = pw (253 - top q) := by
  have e := (expo_bits ⟨top q, by omega⟩).2 h h'
  rw [← search_eq hq] at e
  unfold scale inv
  constructor
  · refine congrArg (fun b => Ideal.ofBits .f32 (IntOp.shli .vector b 23#32)) ?_
    exact e.1
  · refine congrArg (fun b => Ideal.ofBits .f32 (IntOp.shli .vector b 23#32)) ?_
    exact e.2

/-! ## The least power above -/

/-- The reference's scale of a number. -/
def above (q : EReal) : EReal :=
  (Finset.univ : Finset (Fin 254)).fold min ⊤ fun k => if q < pw (k.val + 1) then pw (k.val + 1) else ⊤

def rscale (q : EReal) : EReal := if q < pw 1 then 1 else above q

theorem above_eq {q : EReal} (hq : 0 ≤ q) (h : top q < 253) : above q = pw (top q + 1) := by
  have hlt : ∀ t, t ≤ 255 → (q < pw t ↔ top q < t) := fun t ht => by
    rw [← not_le, pw_le_iff hq t ht, not_le]
  unfold above
  refine le_antisymm ?_ ?_
  · refine Finset.fold_min_le _ |>.mpr (Or.inr ⟨⟨top q, by omega⟩, Finset.mem_univ _, ?_⟩)
    rw [if_pos ((hlt (top q + 1) (by omega)).mpr (Nat.lt_succ_self _))]
  · refine Finset.le_fold_min _ |>.mpr ⟨le_top, fun k _ => ?_⟩
    have hk := k.isLt
    by_cases hh : q < pw (k.val + 1)
    · rw [if_pos hh]
      exact pw_le _ _ ((hlt _ (by omega)).mp hh) (by omega)
    · rw [if_neg hh]; exact le_top

theorem rscale_eq {q : EReal} (hq : 0 ≤ q) (h : top q < 253) : rscale q = scale q ∧ Ideal.div 1 (rscale q) = inv q := by
  have hlt : q < pw 1 ↔ top q < 1 := by rw [← not_le, pw_le_iff hq 1 (by decide), not_le]
  unfold rscale
  by_cases h0 : top q = 0
  · rw [if_pos (hlt.mpr (by omega)), (scale_zero hq h0).1, (scale_zero hq h0).2]
    refine ⟨rfl, ?_⟩
    rw [show (1 : EReal) = ((1 : ℝ) : EReal) from rfl, Ideal.div_coe one_ne_zero, ← EReal.coe_mul]
    norm_num
  · rw [if_neg (fun hc => h0 (by have := hlt.mp hc; omega)), above_eq hq h, (scale_pos hq (by omega) h).1, (scale_pos hq (by omega) h).2]
    refine ⟨rfl, ?_⟩
    rw [pw_coe _ (by omega) (by omega), pw_coe _ (by omega) (by omega), Ideal.div_coe (by positivity), one_mul, EReal.coe_eq_coe_iff,
      one_div, ← zpow_neg]
    refine congrArg _ ?_
    omega

/-! ## The number the scale is taken of -/

/-- The largest magnitude of a row, times the constant. -/
def rowQ (r : Fin 2560 → EReal) : EReal :=
  (Finset.univ : Finset (Fin 2560)).fold max ⊥ (fun d => max (r d) (-(r d))) * Ideal.ofBits .f32 0x3B124925#32

theorem const_eq : Ideal.ofBits .f32 0x3B124925#32 = ((9586981 / 2 ^ 32 : ℝ) : EReal) := by
  have h1 : ((0x3B124925#32).extractLsb' (8 + 23) 1 == 1#1) = false := by decide
  have h2 : ((0x3B124925#32).extractLsb' 23 8).toNat = 118 := by decide
  have h3 : ((0x3B124925#32).extractLsb' 0 23).toNat = 1198373 := by decide
  unfold Ideal.ofBits Ideal.ieee
  simp only [h1, h2, h3]
  rw [if_neg (by norm_num), if_neg (by norm_num)]
  refine congrArg _ ?_
  norm_num

theorem big_eq : Ideal.ofBits .f32 0x7F7FFFFF#32 = (((2 ^ 24 - 1) * 2 ^ 104 : ℝ) : EReal) := by
  have h1 : ((0x7F7FFFFF#32).extractLsb' (8 + 23) 1 == 1#1) = false := by decide
  have h2 : ((0x7F7FFFFF#32).extractLsb' 23 8).toNat = 254 := by decide
  have h3 : ((0x7F7FFFFF#32).extractLsb' 0 23).toNat = 8388607 := by decide
  unfold Ideal.ofBits Ideal.ieee
  simp only [h1, h2, h3]
  rw [if_neg (by norm_num), if_neg (by norm_num)]
  refine congrArg _ ?_
  norm_num

theorem rowQ_good (r : Fin 2560 → EReal) (h : ∀ d, max (r d) (-(r d)) ≤ Ideal.ofBits .f32 0x7F7FFFFF#32) :
    0 ≤ rowQ r ∧ top (rowQ r) < 253 := by
  have h0 : (0 : EReal) ≤ (Finset.univ : Finset (Fin 2560)).fold max ⊥ (fun d => max (r d) (-(r d))) := by
    refine Finset.le_fold_max _ |>.mpr (Or.inr ⟨⟨0, by decide⟩, Finset.mem_univ _, ?_⟩)
    rcases le_total 0 (r ⟨0, by decide⟩) with hh | hh
    · exact hh.trans (le_max_left _ _)
    · exact (EReal.neg_nonneg.mpr hh).trans (le_max_right _ _)
  have h1 : (Finset.univ : Finset (Fin 2560)).fold max ⊥ (fun d => max (r d) (-(r d))) ≤ Ideal.ofBits .f32 0x7F7FFFFF#32 :=
    Finset.fold_max_le _ |>.mpr ⟨bot_le, fun d _ => h d⟩
  rw [big_eq] at h1
  unfold rowQ
  rw [const_eq]
  generalize (Finset.univ : Finset (Fin 2560)).fold max ⊥ (fun d => max (r d) (-(r d))) = a at h0 h1 ⊢
  induction a with
  | bot => exact absurd h0 (by simp)
  | top => exact absurd h1 (not_le.mpr (EReal.coe_lt_top _))
  | coe a =>
    rw [EReal.coe_nonneg] at h0
    rw [EReal.coe_le_coe_iff] at h1
    rw [← EReal.coe_mul]
    have hq : (0 : EReal) ≤ ((a * (9586981 / 2 ^ 32) : ℝ) : EReal) := EReal.coe_nonneg.mpr (by positivity)
    refine ⟨hq, ?_⟩
    refine not_le.mp fun hc => absurd ((pw_le_iff hq 253 (by decide)).mpr hc) (not_le.mpr ?_)
    rw [pw_coe 253 (by decide) (by decide), EReal.coe_lt_coe_iff]
    have e : ((2 : ℝ) ^ (((253 : ℕ) : ℤ) - 127)) = 2 ^ 126 := by norm_num
    rw [e]
    nlinarith [h1]

end Cert.Quant

end
-- ==== Proof.QIVal.lean ====
/- What the quantiser's run leaves: the rows it reads as plain functions of its input, then one block of codes and one
   column of scales per position. -/
module

public import proofs.«01_k».proof.Proof.QIRun
public import proofs.«01_k».proof.Proof.QMath
public import Idealize.ShloMosaic.Lib.Pointwise
public import Idealize.ShloMosaic.Lib.Pipeline.ValueKit
public import Idealize.ShloMosaic.PureOps.Ideal

@[expose] public section

set_option maxRecDepth 16384

noncomputable section

namespace Cert.QuantiseIdeal.Hand

open Cert.QuantiseIdeal Cert.QuantiseIdeal.Gen
open Idealize.ShloMosaic Idealize.ShloMosaic.TcCoe

/-- Position `p`'s 64 rows of the input. -/
def vb (fv : S4x256x2560.Idx → EReal) (p : ℕ) : Vec Ideal S64x2560 .f32 :=
  fun j => fv (ix3 ⟨p / 4 % 4, by omega⟩ ⟨64 * (p % 4) + (j 0).val, by have := (j 0).isLt; simp only [S64x2560] at this; simp at this; omega⟩ (j 1))

theorem v_read (fv : S4x256x2560.Idx → EReal) (p : ℕ) (hp : p < 16) (i o : ℕ) (hi : i = p / 4) (ho : o = 64 * (p % 4))
    (f : (Memref.whole cc0_scratch0).view.ty.Contents (Elt Ideal)) (h)
    (k : ∀ a, (![i, 0, 0] : Fin 3 → ℕ) a + S1x256x2560.size a ≤ S4x256x2560.size a) (k') (k'' : S1x256x2560.Squeezes S256x2560) :
    View.readAt (Elt Ideal) (Memref.whole cc0_scratch0).view (Rect.unit (s := S256x2560) ![o, 0] S64x2560.size h).toLoadRect
      (View.write (Elt Ideal) (Memref.whole cc0_scratch0).view f (ReadAs.same.apply (View.read (Elt Ideal)
        (((Memref.whole main_v2).slice (Rect.unit (s := S4x256x2560) ![i, 0, 0] S1x256x2560.size k) k').squeeze S256x2560 k'').view fv)) Finset.univ)
      = vb fv p := by
  subst hi ho
  rw [View.write_whole_univ]
  funext j
  have he : ∀ x : S256x2560.Idx, Shape.reshapeEquiv (s := S1x256x2560) (s' := S256x2560) k''.numel_eq x = ix3 ⟨0, by decide⟩ (x 0) (x 1) := fun x =>
    Shape.reshapeEquiv_cons_one _ _ |>.trans (by
      funext a
      match a with | ⟨0, _⟩ => rfl | ⟨1, _⟩ => rfl | ⟨2, _⟩ => rfl)
  show fv ((Rect.unit (s := S4x256x2560) ![p / 4, 0, 0] S1x256x2560.size k).emb (Shape.reshapeEquiv (s := S1x256x2560) (s' := S256x2560) k''.numel_eq
    ((Rect.unit (s := S256x2560) ![64 * (p % 4), 0] S64x2560.size h).emb j))) = _
  rw [he]
  refine congrArg fv (funext fun a => Fin.ext ?_)
  match a with
  | ⟨0, _⟩ => exact (by show p / 4 + 1 * 0 = p / 4 % 4; omega)
  | ⟨1, _⟩ => exact (by show 0 + 1 * (64 * (p % 4) + 1 * (j 0).val) = 64 * (p % 4) + (j 0).val; omega)
  | ⟨2, _⟩ => exact (by show 0 + 1 * (0 + 1 * (j 1).val) = (j 1).val; omega)

/-- The exponents of a block's rows, its codes, and its scales along the lanes. -/
def ev (v : Vec Ideal S64x2560 .f32) : IVec S64x1 32 := k0_pay152 (F := Ideal) (k0_pay150 (F := Ideal) v) (k0_pay151 (F := Ideal) v)
def cdv (v : Vec Ideal S64x2560 .f32) : FVec Ideal S64x2560 .fp8e4m3 := k0_pay156 (F := Ideal) v (ev v)
def sbv (v : Vec Ideal S64x2560 .f32) : FVec Ideal S64x128 .f32 := k0_pay154 (F := Ideal) (ev v) k0_pay153

variable (c : Dev nD) (fv : Buf (Elt Ideal) ((c : Thread nD τ).loc main_v2)) (f0 : Buf (Elt Ideal) ((c : Thread nD τ).loc cc0_scratch0))

/-- What each position's block is read as. -/
theorem loads :
    kernelRun0.sl.v6 (F := Ideal) c fv f0 = vb fv 0
    ∧ kernelRun0.sl.v106 (F := Ideal) c fv f0 = vb fv 1
    ∧ kernelRun0.sl.v206 (F := Ideal) c fv f0 = vb fv 2
    ∧ kernelRun0.sl.v306 (F := Ideal) c fv f0 = vb fv 3
    ∧ kernelRun0.sl.v410 (F := Ideal) c fv f0 = vb fv 4
    ∧ kernelRun0.sl.v510 (F := Ideal) c fv f0 = vb fv 5
    ∧ kernelRun0.sl.v610 (F := Ideal) c fv f0 = vb fv 6
    ∧ kernelRun0.sl.v710 (F := Ideal) c fv f0 = vb fv 7
    ∧ kernelRun0.sl.v814 (F := Ideal) c fv f0 = vb fv 8
    ∧ kernelRun0.sl.v914 (F := Ideal) c fv f0 = vb fv 9
    ∧ kernelRun0.sl.v1014 (F := Ideal) c fv f0 = vb fv 10
    ∧ kernelRun0.sl.v1114 (F := Ideal) c fv f0 = vb fv 11
    ∧ kernelRun0.sl.v1218 (F := Ideal) c fv f0 = vb fv 12
    ∧ kernelRun0.sl.v1318 (F := Ideal) c fv f0 = vb fv 13
    ∧ kernelRun0.sl.v1418 (F := Ideal) c fv f0 = vb fv 14
    ∧ kernelRun0.sl.v1518 (F := Ideal) c fv f0 = vb fv 15 :=
  ⟨v_read fv 0 (by decide) 0 0 rfl rfl _ _ _ _ _,
   v_read fv 1 (by decide) 0 64 rfl rfl _ _ _ _ _,
   v_read fv 2 (by decide) 0 128 rfl rfl _ _ _ _ _,
   v_read fv 3 (by decide) 0 192 rfl rfl _ _ _ _ _,
   v_read fv 4 (by decide) 1 0 rfl rfl _ _ _ _ _,
   v_read fv 5 (by decide) 1 64 rfl rfl _ _ _ _ _,
   v_read fv 6 (by decide) 1 128 rfl rfl _ _ _ _ _,
   v_read fv 7 (by decide) 1 192 rfl rfl _ _ _ _ _,
   v_read fv 8 (by decide) 2 0 rfl rfl _ _ _ _ _,
   v_read fv 9 (by decide) 2 64 rfl rfl _ _ _ _ _,
   v_read fv 10 (by decide) 2 128 rfl rfl _ _ _ _ _,
   v_read fv 11 (by decide) 2 192 rfl rfl _ _ _ _ _,
   v_read fv 12 (by decide) 3 0 rfl rfl _ _ _ _ _,
   v_read fv 13 (by decide) 3 64 rfl rfl _ _ _ _ _,
   v_read fv 14 (by decide) 3 128 rfl rfl _ _ _ _ _,
   v_read fv 15 (by decide) 3 192 rfl rfl _ _ _ _ _⟩

/-- Position `n`'s rows of the codes. -/
abbrev codeB (n : ℕ) (h : n < 16) : Rect S1024x2560 := Rect.unit (s := S1024x2560) ![64 * n, 0] S64x2560.size (fun a => match a with
      | ⟨0, _⟩ => (by show 64 * n + 64 ≤ 1024; omega)
      | ⟨1, _⟩ => (by show 0 + 2560 ≤ 2560; omega))

/-- The stores into the codes, the newest first, each position's block with its payload. -/
def codesL (w : ℕ → S64x2560.Idx → EReal) : (n : ℕ) → n ≤ 16 → List (View.Piece (Elt Ideal) S1024x2560 .fp8e4m3)
  | 0, _ => []
  | n + 1, h => ⟨codeB n (by omega), w n⟩ :: codesL w n (by omega)

/-- The scales gathered after `n` positions: lane `p` holds position `p`'s. -/
def scalesL (fv : S4x256x2560.Idx → EReal) : ℕ → FVec Ideal S64x128 .f32
  | 0 => k0_pay1 (F := Ideal)
  | n + 1 => select (cmpi .eq kernelRun0.sl.v0 (broadcast S64x128 (BitVec.ofNat 32 n))) (sbv (vb fv n)) (scalesL fv n)

theorem codes_list : kernelRun0.sl.H1_16 (F := Ideal) c fv f0 = codesL (fun p => cdv (vb fv p)) 16 le_rfl := by
  obtain ⟨h0, h1, h2, h3, h4, h5, h6, h7, h8, h9, h10, h11, h12, h13, h14, h15⟩ := loads c fv f0
  simp only [codesL]
  rw [← h0, ← h1, ← h2, ← h3, ← h4, ← h5, ← h6, ← h7, ← h8, ← h9, ← h10, ← h11, ← h12, ← h13, ← h14, ← h15]
  rfl

theorem scales_1 : kernelRun0.sl.r_6 (F := Ideal) c fv f0 = scalesL fv 1 := by
  show _ = select _ _ (scalesL fv 0)
  rw [← (v_read fv 0 (by decide) 0 0 rfl rfl _ _ _ _ _ : kernelRun0.sl.v6 (F := Ideal) c fv f0 = _)]; rfl
theorem scales_2 : kernelRun0.sl.r_13 (F := Ideal) c fv f0 = scalesL fv 2 := by
  show _ = select _ _ (scalesL fv 1)
  rw [← (v_read fv 1 (by decide) 0 64 rfl rfl _ _ _ _ _ : kernelRun0.sl.v106 (F := Ideal) c fv f0 = _), ← scales_1 c fv f0]; rfl
theorem scales_3 : kernelRun0.sl.r_18 (F := Ideal) c fv f0 = scalesL fv 3 := by
  show _ = select _ _ (scalesL fv 2)
  rw [← (v_read fv 2 (by decide) 0 128 rfl rfl _ _ _ _ _ : kernelRun0.sl.v206 (F := Ideal) c fv f0 = _), ← scales_2 c fv f0]; rfl
theorem scales_4 : kernelRun0.sl.r_25 (F := Ideal) c fv f0 = scalesL fv 4 := by
  show _ = select _ _ (scalesL fv 3)
  rw [← (v_read fv 3 (by decide) 0 192 rfl rfl _ _ _ _ _ : kernelRun0.sl.v306 (F := Ideal) c fv f0 = _), ← scales_3 c fv f0]; rfl
theorem scales_5 : kernelRun0.sl.r_31 (F := Ideal) c fv f0 = scalesL fv 5 := by
  show _ = select _ _ (scalesL fv 4)
  rw [← (v_read fv 4 (by decide) 1 0 rfl rfl _ _ _ _ _ : kernelRun0.sl.v410 (F := Ideal) c fv f0 = _), ← scales_4 c fv f0]; rfl
theorem scales_6 : kernelRun0.sl.r_37 (F := Ideal) c fv f0 = scalesL fv 6 := by
  show _ = select _ _ (scalesL fv 5)
  rw [← (v_read fv 5 (by decide) 1 64 rfl rfl _ _ _ _ _ : kernelRun0.sl.v510 (F := Ideal) c fv f0 = _), ← scales_5 c fv f0]; rfl
theorem scales_7 : kernelRun0.sl.r_44 (F := Ideal) c fv f0 = scalesL fv 7 := by
  show _ = select _ _ (scalesL fv 6)
  rw [← (v_read fv 6 (by decide) 1 128 rfl rfl _ _ _ _ _ : kernelRun0.sl.v610 (F := Ideal) c fv f0 = _), ← scales_6 c fv f0]; rfl
theorem scales_8 : kernelRun0.sl.r_51 (F := Ideal) c fv f0 = scalesL fv 8 := by
  show _ = select _ _ (scalesL fv 7)
  rw [← (v_read fv 7 (by decide) 1 192 rfl rfl _ _ _ _ _ : kernelRun0.sl.v710 (F := Ideal) c fv f0 = _), ← scales_7 c fv f0]; rfl
theorem scales_9 : kernelRun0.sl.r_56 (F := Ideal) c fv f0 = scalesL fv 9 := by
  show _ = select _ _ (scalesL fv 8)
  rw [← (v_read fv 8 (by decide) 2 0 rfl rfl _ _ _ _ _ : kernelRun0.sl.v814 (F := Ideal) c fv f0 = _), ← scales_8 c fv f0]; rfl
theorem scales_10 : kernelRun0.sl.r_60 (F := Ideal) c fv f0 = scalesL fv 10 := by
  show _ = select _ _ (scalesL fv 9)
  rw [← (v_read fv 9 (by decide) 2 64 rfl rfl _ _ _ _ _ : kernelRun0.sl.v914 (F := Ideal) c fv f0 = _), ← scales_9 c fv f0]; rfl
theorem scales_11 : kernelRun0.sl.r_66 (F := Ideal) c fv f0 = scalesL fv 11 := by
  show _ = select _ _ (scalesL fv 10)
  rw [← (v_read fv 10 (by decide) 2 128 rfl rfl _ _ _ _ _ : kernelRun0.sl.v1014 (F := Ideal) c fv f0 = _), ← scales_10 c fv f0]; rfl
theorem scales_12 : kernelRun0.sl.r_72 (F := Ideal) c fv f0 = scalesL fv 12 := by
  show _ = select _ _ (scalesL fv 11)
  rw [← (v_read fv 11 (by decide) 2 192 rfl rfl _ _ _ _ _ : kernelRun0.sl.v1114 (F := Ideal) c fv f0 = _), ← scales_11 c fv f0]; rfl
theorem scales_13 : kernelRun0.sl.r_78 (F := Ideal) c fv f0 = scalesL fv 13 := by
  show _ = select _ _ (scalesL fv 12)
  rw [← (v_read fv 12 (by decide) 3 0 rfl rfl _ _ _ _ _ : kernelRun0.sl.v1218 (F := Ideal) c fv f0 = _), ← scales_12 c fv f0]; rfl
theorem scales_14 : kernelRun0.sl.r_81 (F := Ideal) c fv f0 = scalesL fv 14 := by
  show _ = select _ _ (scalesL fv 13)
  rw [← (v_read fv 13 (by decide) 3 64 rfl rfl _ _ _ _ _ : kernelRun0.sl.v1318 (F := Ideal) c fv f0 = _), ← scales_13 c fv f0]; rfl
theorem scales_15 : kernelRun0.sl.r_87 (F := Ideal) c fv f0 = scalesL fv 15 := by
  show _ = select _ _ (scalesL fv 14)
  rw [← (v_read fv 14 (by decide) 3 128 rfl rfl _ _ _ _ _ : kernelRun0.sl.v1418 (F := Ideal) c fv f0 = _), ← scales_14 c fv f0]; rfl

theorem codeB_emb (p : ℕ) (hp : p < 16) (j : S64x2560.Idx) :
    (codeB p hp).emb j = ix2 (⟨64 * p + (j 0).val, by have := (j 0).isLt; simp only [S64x2560] at this; simp at this; omega⟩ : Fin 1024) (j 1) := by
  funext a
  apply Fin.ext
  match a with
  | ⟨0, _⟩ => exact (by show 64 * p + 1 * (j 0).val = 64 * p + (j 0).val; omega)
  | ⟨1, _⟩ => exact (by show 0 + 1 * (j 1).val = (j 1).val; omega)

theorem codes_read (w : ℕ → S64x2560.Idx → EReal) (f1 : (Memref.whole cc0_scratch1).view.ty.Contents (Elt Ideal)) (p : ℕ) (hp16 : p < 16) (j : S64x2560.Idx) :
    ∀ (n : ℕ) (hn : n ≤ 16) (hp : p < n),
    (Memref.whole cc0_scratch1).view.read (Elt Ideal) ((Memref.whole cc0_scratch1).view.writes (Elt Ideal) f1 (codesL w n hn)) ((codeB p hp16).emb j) = w p j := by
  intro n
  have hj : (j 0).val < 64 := (j 0).isLt
  induction n with
  | zero => intro hn hp; omega
  | succ n ih =>
    intro hn hp
    rw [codesL]
    by_cases h : p = n
    · subst h
      exact View.read_writes_cons_emb _ _ _ _ _ _
    · refine (View.read_writes_cons_miss_of_axis _ _ _ _ _ (0 : Fin 2) (64 * n) 64 rfl rfl rfl ?_).trans (ih (by omega) (by omega))
      show 64 * p + 1 * (j 0).val < 64 * n ∨ 64 * n + 64 ≤ 64 * p + 1 * (j 0).val
      omega

theorem lane_at (y : Fin 64) (p : ℕ) (h : p < 128) : kernelRun0.sl.v0 (ix2 y (⟨p, h⟩ : Fin 128)) = BitVec.ofNat 32 p := by
  unfold kernelRun0.sl.v0
  pointwise

theorem scalesL_at (fv : S4x256x2560.Idx → EReal) (y : Fin 64) (p : ℕ) : ∀ n (hn : n ≤ 16) (hp : p < n),
    scalesL fv n (ix2 y ⟨p, by omega⟩) = sbv (vb fv p) (ix2 y ⟨p, by omega⟩) := by
  intro n
  induction n with
  | zero => intro hn hp; omega
  | succ n ih =>
    intro hn hp
    have hc : cmpi .eq kernelRun0.sl.v0 (broadcast S64x128 (BitVec.ofNat 32 n)) (ix2 y (⟨p, by omega⟩ : Fin 128)) = BitVec.ofBool (decide (p = n)) := by
      show IntOp.cmpi .eq (kernelRun0.sl.v0 (ix2 y (⟨p, by omega⟩ : Fin 128))) (BitVec.ofNat 32 n) = _
      rw [show kernelRun0.sl.v0 (ix2 y (⟨p, by omega⟩ : Fin 128)) = BitVec.ofNat 32 p from lane_at y p (by omega)]
      show BitVec.ofBool (BitVec.ofNat 32 p == BitVec.ofNat 32 n) = _
      refine congrArg BitVec.ofBool ?_
      rw [Bool.eq_iff_iff, beq_iff_eq, decide_eq_true_iff]
      constructor
      · intro h
        have := congrArg BitVec.toNat h
        simp only [BitVec.toNat_ofNat] at this
        omega
      · rintro rfl; rfl
    show Scalar.select (cmpi .eq kernelRun0.sl.v0 (broadcast S64x128 (BitVec.ofNat 32 n)) (ix2 y (⟨p, by omega⟩ : Fin 128))) _ _ = _
    rw [hc]
    by_cases h : p = n
    · subst h; simp [Scalar.select]
    · rw [show decide (p = n) = false from decide_eq_false h]
      exact ih (by omega) (by omega)

/-- The codes as the result has them. -/
theorem codes_out (f1 : Buf (Elt Ideal) ((c : Thread nD τ).loc cc0_scratch1)) (p : ℕ) (hp : p < 16) (j : S64x2560.Idx) :
    kernelRun0.sl.dma82_1 (F := Ideal) c fv f0 f1 (ix2 ⟨64 * p + (j 0).val, by have := (j 0).isLt; simp only [S64x2560] at this; simp at this; omega⟩ (j 1))
      = cdv (vb fv p) j := by
  unfold kernelRun0.sl.dma82_1
  rw [codes_list]
  refine Eq.trans (congrArg _ (codeB_emb p hp j).symm) ?_
  exact codes_read (fun p => cdv (vb fv p)) f1 p hp j 16 le_rfl hp

/-- The row of a block that a tile's entry `n` has: the second band starts at row 32. -/
def rowOf (n : Fin 60) : Fin 64 := if h : n.val < 30 then ⟨n.val, by omega⟩ else ⟨n.val + 2, by have := n.isLt; omega⟩

theorem gather (x : FVec Ideal S64x128 .f32) (h1 h2 h3 h4 h5 h6) (p : Fin 16) (n : Fin 60) :
    shapeCast S16x60 (concatenate S16x60 1 [⟨S16x30, extractStridedSlice S16x30 ![0, 0] (extractStridedSlice S16x64 ![0, 0] (transpose S128x64 [1, 0] x h1) h2) h3⟩,
      ⟨S16x30, extractStridedSlice S16x30 ![0, 32] (extractStridedSlice S16x64 ![0, 0] (transpose S128x64 [1, 0] x h1) h2) h4⟩] h5) h6 (ix2 p n)
      = x (ix2 (rowOf n) ⟨p.val, by omega⟩) := by
  by_cases hn : n.val < 30
  · rw [show rowOf n = ⟨n.val, by omega⟩ from dif_pos hn]
    pointwise
    exact dif_pos hn
  · rw [show rowOf n = ⟨n.val + 2, by omega⟩ from dif_neg hn]
    pointwise
    rw [dif_neg hn]
    exact congrArg (fun r => x (ix2 r _)) (Fin.ext (by show 32 + (n.val - 30) = n.val + 2; omega))

/-- The scales as the result has them. -/
theorem scales_out (f3 : Buf (Elt Ideal) ((c : Thread nD τ).loc cc0_scratch3)) (p : Fin 16) (n : Fin 60) :
    kernelRun0.sl.dma82 (F := Ideal) c fv f0 f3 (ix2 p n) = sbv (vb fv p.val) (ix2 (rowOf n) ⟨p.val, by omega⟩) := by
  have e : kernelRun0.sl.H3_1 (F := Ideal) c fv f0 = [⟨Rect.unit (s := S16x60) ![0, 0] S16x60.size inb_S16x60_S16x60_0_0,
      shapeCast S16x60 (concatenate S16x60 1 [⟨S16x30, extractStridedSlice S16x30 ![0, 0] (extractStridedSlice S16x64 ![0, 0] (transpose S128x64 [1, 0] (scalesL fv 16) transposes_S64x128_p1_0_S128x64) slices_S128x64_o0_0_S16x64) slices_S16x64_o0_0_S16x30⟩,
        ⟨S16x30, extractStridedSlice S16x30 ![0, 32] (extractStridedSlice S16x64 ![0, 0] (transpose S128x64 [1, 0] (scalesL fv 16) transposes_S64x128_p1_0_S128x64) slices_S128x64_o0_0_S16x64) slices_S16x64_o0_32_S16x30⟩] concatenates_S16x30_S16x30_S16x60_d1) shapeCasts_S16x60_S16x60⟩] := by
    rw [show scalesL fv 16 = select (cmpi .eq kernelRun0.sl.v0 (broadcast S64x128 15#32)) (sbv (vb fv 15)) (scalesL fv 15) from rfl,
      ← (v_read fv 15 (by decide) 3 192 rfl rfl _ _ _ _ _ : kernelRun0.sl.v1518 (F := Ideal) c fv f0 = _), ← scales_15 c fv f0]
    rfl
  unfold kernelRun0.sl.dma82
  rw [e]
  refine (View.read_writes_cons_hit _ _ _ _ _ (ix2 p n) _ (funext fun a => Fin.ext ?_)).trans ?_
  · match a with
    | ⟨0, _⟩ => exact (by show 0 + 1 * p.val = p.val; omega)
    | ⟨1, _⟩ => exact (by show 0 + 1 * n.val = n.val; omega)
  · refine (gather _ _ _ _ _ _ _ p n).trans ?_
    exact scalesL_at fv (rowOf n) p.val 16 le_rfl p.isLt

/-! ## One block, element by element -/

theorem red_lift (h : S64x2560.Reduces [1] S64) (y : Fin 64) (d : Fin 2560) : h.lift (ix1 y) d = ix2 y d := by
  funext c; apply Fin.ext
  fin_cases c <;> rfl

theorem neg_inf : Ideal.ofBits .f32 0xFF800000#32 = ⊥ := by simp [Ideal.ofBits, Ideal.ieee]

theorem q_at (v : Vec Ideal S64x2560 .f32) (y : Fin 64) : k0_pay150 (F := Ideal) v (ix2 y ⟨0, by decide⟩) = Cert.Quant.rowQ fun d => v (ix2 y d) := by
  have e1 : ∀ x : S64.Idx → EReal, shapeCast S64x1 x shapeCasts_S64_S64x1 (ix2 y ⟨0, by decide⟩) = x (ix1 y) := fun x => by pointwise
  unfold Cert.Quant.rowQ
  refine congrArg (· * Ideal.ofBits .f32 0x3B124925#32) ((e1 _).trans ((Ideal.multiReduction_maximumf_single _ _ _ _ _ _).trans ?_))
  show (Finset.univ : Finset (Fin 2560)).fold max (Ideal.ofBits .f32 0xFF800000#32) _ = _
  rw [neg_inf]
  refine congrArg (fun f => Finset.fold max (⊥ : EReal) f (Finset.univ : Finset (Fin 2560))) (funext fun d => ?_)
  exact congrArg (absf (F := Ideal) (φ := .f32) v) (red_lift reduces_S64x2560_S64 y d)

/-- One step of the search, on a column. -/
def vstep (q : FVec Ideal S64x1 .f32) (e : IVec S64x1 32) (k : BitVec 32) : IVec S64x1 32 :=
  select (cmpf .oge q (bitcastToFloat .f32 (shli (addi e (broadcast S64x1 k)) (broadcast S64x1 23#32)))) (addi e (broadcast S64x1 k)) e

theorem vstep_at (q : FVec Ideal S64x1 .f32) (e : IVec S64x1 32) (k : BitVec 32) (i : S64x1.Idx) :
    vstep q e k i = Cert.Quant.step (q i) (e i) k := rfl

/-- The search, on a column. -/
def vsearch (q : FVec Ideal S64x1 .f32) : IVec S64x1 32 :=
  vstep q (vstep q (vstep q (vstep q (vstep q (vstep q (vstep q (vstep q (broadcast S64x1 0#32) 128#32) 64#32) 32#32) 16#32) 8#32) 4#32) 2#32) 1#32

theorem vsearch_at (q : FVec Ideal S64x1 .f32) (i : S64x1.Idx) : vsearch q i = Cert.Quant.search (q i) := by
  unfold vsearch Cert.Quant.search
  rw [vstep_at, vstep_at, vstep_at, vstep_at, vstep_at, vstep_at, vstep_at, vstep_at]
  rfl

theorem ev_eq (v : Vec Ideal S64x2560 .f32) : ev v =
    select (ori (cmpi .eq (vsearch (k0_pay150 (F := Ideal) v)) (broadcast S64x1 0#32)) (cmpi .eq (vsearch (k0_pay150 (F := Ideal) v)) (broadcast S64x1 255#32)))
      (broadcast S64x1 0#32) (subi (vsearch (k0_pay150 (F := Ideal) v)) (broadcast S64x1 126#32)) := by
  unfold ev k0_pay151
  generalize k0_pay150 (F := Ideal) v = q
  rfl

theorem e_at (v : Vec Ideal S64x2560 .f32) (y : Fin 64) : ev v (ix2 y ⟨0, by decide⟩) = Cert.Quant.expo (Cert.Quant.rowQ fun d => v (ix2 y d)) := by
  rw [← q_at, ev_eq]
  generalize k0_pay150 (F := Ideal) v = q
  unfold Cert.Quant.expo
  rw [← vsearch_at]
  rfl

theorem sbv_at (v : Vec Ideal S64x2560 .f32) (y : Fin 64) (l : Fin 128) : sbv v (ix2 y l) = Cert.Quant.scale (Cert.Quant.rowQ fun d => v (ix2 y d)) := by
  have e1 : ∀ x : S64x1.Idx → EReal, broadcastTo S64x128 (shapeCast S64x1 x shapeCasts_S64x1_S64x1) broadcasts_S64x1_S64x128 (ix2 y l) = x (ix2 y ⟨0, by decide⟩) := fun x => by pointwise
  refine (e1 (bitcastToFloat (F := Ideal) .f32 (shli (addi (ev v) (broadcast S64x1 127#32)) (broadcast S64x1 23#32)))).trans ?_
  show Ideal.ofBits .f32 (IntOp.shli .vector (IntOp.addi (ev v (ix2 y ⟨0, by decide⟩)) 127#32) 23#32) = _
  rw [e_at]
  rfl

theorem cdv_at (v : Vec Ideal S64x2560 .f32) (y : Fin 64) (d : Fin 2560) :
    cdv v (ix2 y d) = min (Ideal.ofBits .f32 0x43E00000#32) (max (Ideal.ofBits .f32 0xC3E00000#32) (v (ix2 y d) * Cert.Quant.inv (Cert.Quant.rowQ fun d => v (ix2 y d)))) := by
  have e1 : ∀ x : S64x1.Idx → EReal, broadcastTo S64x2560 x broadcasts_S64x1_S64x2560 (ix2 y d) = x (ix2 y ⟨0, by decide⟩) := fun x => by pointwise
  have e2 : ∀ x : S64x2560.Idx → EReal, shapeCast S64x2560 x shapeCasts_S64x2560_S64x2560 (ix2 y d) = x (ix2 y d) := fun x => by pointwise
  refine (e2 (minimumf (F := Ideal) (φ := .f32) (broadcast S64x2560 (Ideal.ofBits .f32 0x43E00000#32)) (maximumf (broadcast S64x2560 (Ideal.ofBits .f32 0xC3E00000#32))
    (mulf v (broadcastTo S64x2560 (bitcastToFloat .f32 (shli (subi (broadcast S64x1 127#32) (ev v)) (broadcast S64x1 23#32))) broadcasts_S64x1_S64x2560))))).trans ?_
  refine congrArg (fun t => min (Ideal.ofBits .f32 0x43E00000#32) (max (Ideal.ofBits .f32 0xC3E00000#32) (v (ix2 y d) * t))) ?_
  refine (e1 _).trans ?_
  show Ideal.ofBits .f32 (IntOp.shli .vector (IntOp.subi 127#32 (ev v (ix2 y ⟨0, by decide⟩))) 23#32) = _
  rw [e_at]
  rfl

end Cert.QuantiseIdeal.Hand

end
-- ==== Proof.QIValue.lean ====
/- The run of the idealized quantiser with its values: what the region leaves in its two results, and what the host lines
   around it make of them. -/
module

public import proofs.«01_k».proof.Proof.QIFrame
public import proofs.«01_k».proof.Proof.QIVal
public import Idealize.ShloMosaic.Lib.KernelVsHost

@[expose] public section

set_option maxRecDepth 16384

noncomputable section

namespace Cert.QuantiseIdeal.HandV

open Cert.QuantiseIdeal Cert.QuantiseIdeal.Gen
open Cert.QuantiseIdeal.Hand hiding frame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-- The region's codes: position `p`'s rows from row `64 p` on. -/
def codes (fv : S4x256x2560.Idx → EReal) : S1024x2560.Idx → EReal :=
  fun i => cdv (vb fv ((i 0).val / 64)) (ix2 ⟨(i 0).val % 64, Nat.mod_lt _ (by decide)⟩ (i 1))

/-- The region's scales. -/
def scales (fv : S4x256x2560.Idx → EReal) : S16x60.Idx → EReal :=
  fun i => sbv (vb fv (i 0).val) (ix2 (rowOf (i 1)) ⟨(i 0).val, by have := (i 0).isLt; simp only [S16x60] at this; simp at this; omega⟩)

section
variable (c : Dev nD) (fv : Buf (Elt Ideal) ((c : Thread nD τ).loc main_v2)) (fc : Buf (Elt Ideal) ((c : Thread nD τ).loc main_v3_0)) (fs : Buf (Elt Ideal) ((c : Thread nD τ).loc main_v3_1))
  (f0 : Buf (Elt Ideal) ((c : Thread nD τ).loc cc0_scratch0)) (f1 : Buf (Elt Ideal) ((c : Thread nD τ).loc cc0_scratch1)) (f2 : Buf (Elt Ideal) ((c : Thread nD τ).loc cc0_scratch2)) (f3 : Buf (Elt Ideal) ((c : Thread nD τ).loc cc0_scratch3))

theorem run_codes : (kernelRun0 (F := Ideal) c fv fc fs f0 f1 f2 f3).1.1 = codes fv := by
  have e : (kernelRun0 (F := Ideal) c fv fc fs f0 f1 f2 f3).1.1
      = View.write (Elt Ideal) (View.whole main_v3_0) fc (kernelRun0.sl.dma82_1 (F := Ideal) c fv f0 f1) Finset.univ := by
    unfold kernelRun0; dsimp only
  rw [e, View.write_whole_univ]
  funext i
  have hi : (i 0).val < 1024 := (i 0).isLt
  refine Eq.trans ?_ (codes_out c fv f0 f1 ((i 0).val / 64) (by omega) (ix2 ⟨(i 0).val % 64, Nat.mod_lt _ (by decide)⟩ (i 1)))
  refine congrArg (kernelRun0.sl.dma82_1 (F := Ideal) c fv f0 f1) (funext fun a => Fin.ext ?_)
  match a with
  | ⟨0, _⟩ => exact (by show (i 0).val = 64 * ((i 0).val / 64) + (i 0).val % 64; omega)
  | ⟨1, _⟩ => rfl

theorem run_scales : (kernelRun0 (F := Ideal) c fv fc fs f0 f1 f2 f3).1.2 = scales fv := by
  have e : (kernelRun0 (F := Ideal) c fv fc fs f0 f1 f2 f3).1.2
      = View.write (Elt Ideal) (View.whole main_v3_1) fs (kernelRun0.sl.dma82 (F := Ideal) c fv f0 f3) Finset.univ := by
    unfold kernelRun0; dsimp only
  rw [e, View.write_whole_univ]
  funext i
  exact (congrArg (kernelRun0.sl.dma82 (F := Ideal) c fv f0 f3) (eq_ix2 i)).trans (scales_out c fv f0 f3 (i 0) (i 1))
end

/-- What the region leaves in the arrays that it does not stage: its results at `codes` and `scales`, the others as it
    finds them. -/
def G (c : Dev nD) : (b : Ref sig .tc) → Buf (Elt Ideal) ((c.tc : Thread nD τ).loc b) :=
  Function.update (Function.update (V m c) main_v3_0 (codes (V m c main_v2))) main_v3_1 (scales (V m c main_v2))

theorem G_v3_0 (c : Dev nD) : G m c main_v3_0 = codes (V m c main_v2) := by
  unfold G; rw [Function.update_of_ne (by decide)]; exact Function.update_self ..
theorem G_v3_1 (c : Dev nD) : G m c main_v3_1 = scales (V m c main_v2) := by
  unfold G; exact Function.update_self ..

/-- The invariant: before the body the arrays are as the region finds them, after it they are at `G`. -/
def datsV (_ : Fin 1) (c : Dev nD) : Dat τ (Elt Ideal) Unit ℕ (Pipeline.UD sig nD τ) ℕ cfg0 c where
  A w := w.elim0
  after w t := w.elim0
  Φ t := Pipeline.ΦDRV osem0 cfg0.spec H0 R0 (V m) (if t.val = 0 then V m else G m) c
  q _ := fullShare
  owed _ := 0

def bodyPreV (c : Dev nD) (t : Fin cfg0.N) : sProp 𝕄 := iprop((datsV m 0 c).Φ t.castSucc ∗ (datsV m 0 c).owesAt () t.castSucc ∗ emp)
def bodyPostV (c : Dev nD) (t : Fin cfg0.N) : sProp 𝕄 := iprop((datsV m 0 c).Φ t.succ ∗ (datsV m 0 c).owesAt () t.succ ∗ emp)

theorem sound_bodyV (c : Dev nD) (t : Fin cfg0.N) :
    bodyPreV m c t ⊢ wp frame (wpE (defs₀ (F := Ideal)) Variants.none c none) Set.univ (bodyAt0 t) (fun _ => bodyPostV m c t) := by
  obtain rfl := fin_N0 t
  unfold bodyPreV bodyPostV
  rw [show (datsV m 0 c).Φ t0_0.succ = Pipeline.ΦDRV osem0 cfg0.spec H0 R0 (V m) (G m) c from rfl,
    show (datsV m 0 c).Φ t0_0.castSucc = Pipeline.ΦDRV osem0 cfg0.spec H0 R0 (V m) (V m) c from rfl]
  unfold Pipeline.ΦDRV
  rw [scoped0_eq, ownSems00_eq, hbmPts0_eq, resPts0_eq c (V m c), resPts0_eq c (G m c), G_v3_0, G_v3_1]
  unfold Dat.owesAt Pipeline.owesWithin
  rw [show (datsV m 0 c).owed t0_0.castSucc = 0 from rfl, show (datsV m 0 c).owed t0_0.succ = 0 from rfl]
  iintro ⟨⟨⟨⟨%f0, H0⟩, ⟨%f1, H1⟩, ⟨%f2, H2⟩, ⟨%f3, H3⟩⟩, ⟨Q0, Q1, Q2⟩, A0, A1, A2⟩, ⟨%W, -, HW⟩, -⟩
  iapply ((kernelRun0 (F := Ideal) c (V m c main_v2) (V m c main_v3_0) (V m c main_v3_1) f0 f1 f2 f3).2 W _)
  isplitl [H0]; · iexact H0
  isplitl [H1]; · iexact H1
  isplitl [H2]; · iexact H2
  isplitl [H3]; · iexact H3
  isplitl [Q0]; · iexact Q0
  isplitl [Q1]; · iexact Q1
  isplitl [Q2]; · iexact Q2
  isplitl [A0]; · iexact A0
  isplitl [A1]; · iexact A1
  isplitl [A2]; · iexact A2
  isplitl [HW]; · iexact HW
  iintro ⟨H0, H1, H2, H3, Q0, Q1, Q2, A0, A1, A2, ⟨%W', HW'⟩⟩
  rw [run_codes, run_scales]
  isplitl [H0 H1 H2 H3 Q0 Q1 Q2 A0 A1 A2]
  · isplitl [H0 H1 H2 H3]
    · isplitl [H0]; · iexact H0
      isplitl [H1]; · iexact H1
      isplitl [H2]; · iexact H2
      iexact H3
    isplitl [Q0 Q1 Q2]
    · isplitl [Q0]; · iexact Q0
      isplitl [Q1]; · iexact Q1
      iexact Q2
    isplitl [A0]; · iexact A0
    isplitl [A1]; · iexact A1
    iexact A2
  isplitl [HW']
  · iexists W'; isplitr; · ipureintro; exact fun _ _ => Or.inl trivial
    iexact HW'
  iempintro

theorem body_obligationV (c : Dev nD) : BodyObligation (datsV m 0 c) (defs₀ (F := Ideal)) Variants.none () Set.univ := fun t => by
  rw [bigSep_none, bigSep_none, defs₀_row]
  exact triple_restated (sound_bodyV m c t) rfl .rfl fun _ => .rfl

/-- The buffers at the region's exit. -/
abbrev exitV (c : Dev nD) : Valuation τ sig (Elt Ideal) :=
  Pipeline.withArrays cfg0.spec c (Pipeline.withR (V0 m c) R0 c (G m c)) fun w => (datsV m 0 c).arrAt w cfg0.N

set_option backward.isDefEq.respectTransparency.types false in
theorem run_mainV : θ_run defs (onTc (τ := τ) (main (F := Ideal))) (s₀ m ρ)
    (fun r => ∀ c : Dev nD, ∀ b ∈ Pipeline.restRefs sig cfg0.spec, r.2.mem ((c.tc : Thread nD τ).loc b)
      = StableHlo.after (List.flatten [hostOps1]) (exitV m c) (Proc.devRef .tc b)) :=
  Pipeline.θ_run_frame_dmaR_aroundV (Q' := _) cfgs (datsV m) (0 : Fin 1) launch0 osem0 defs₀ Variants.none ownSemFactsD H0 R0 H0_sub R0_sub m ρ main
    (hbody := fun c => (body_obligationV m c).loose) (hshare := fun c => (datsV m 0 c).share_full fun _ => rfl)
    (howed := fun _ _ => rfl) (V₀ := V0 m) (opss := [hostOps1]) (hsub := sfx_sub) (hfresh := sfx_fresh) (hkeep := sfx_keeps) (G := G m)
    (hmain := hmainD m Variants.none) (hA := fun _ w => w.elim0) (hin := fun _ => .rfl) (hout := fun _ => .rfl)
    (hQ' := fun _ h c b hb => (h.1 c).2 b hb)

/-! ## The lines after the region -/

theorem exitV_eq (c : Dev nD) (b : Ref sig .tc) : exitV m c (Proc.devRef .tc b) = Pipeline.withR (V0 m c) R0 c (G m c) (Proc.devRef .tc b) :=
  Pipeline.withArrays_of_ne _ c _ _ b fun w => w.elim0

theorem exitV_v3_0 (c : Dev nD) : exitV m c (Proc.devRef .tc main_v3_0) = codes (V m c main_v2) :=
  (exitV_eq m c main_v3_0).trans ((Pipeline.withR_of_mem (V0 m c) R0 c (G m c) main_v3_0 (by decide)).trans (G_v3_0 m c))
theorem exitV_v3_1 (c : Dev nD) : exitV m c (Proc.devRef .tc main_v3_1) = scales (V m c main_v2) :=
  (exitV_eq m c main_v3_1).trans ((Pipeline.withR_of_mem (V0 m c) R0 c (G m c) main_v3_1 (by decide)).trans (G_v3_1 m c))

theorem exitV_keep (c : Dev nD) (b : Ref sig .tc) (h : b ∉ R0) : exitV m c (Proc.devRef .tc b) = V m c b :=
  (exitV_eq m c b).trans (Pipeline.withR_of_not_mem (V0 m c) R0 c (G m c) b h)

abbrev hostOps1_W : List (Ref sig .tc) := [main_v4, main_v5, main_v6]
theorem hostOps1_wr : (hostOps1 : List (HloOp τ sig (Elt Ideal))).Forall fun op => op.writes ⊆ (hostOps1_W.map (Proc.devRef (τ := τ) .tc)).toFinset :=
  StableHlo.forall_writes_sub_of_map rfl

theorem after_keep (c : Dev nD) (b : Ref sig .tc) (h : b ∉ hostOps1_W) (h' : b ∉ R0) :
    StableHlo.after (List.flatten [hostOps1]) (exitV m c) (Proc.devRef .tc b) = V m c b := by
  rw [List.flatten_cons, List.flatten_nil, List.append_nil, StableHlo.after_of_writes_sub (r := b) hostOps1 _ hostOps1_wr h, exitV_keep m c b h']

theorem after_v3_1 (c : Dev nD) : StableHlo.after (List.flatten [hostOps1]) (exitV m c) (Proc.devRef .tc main_v3_1) = scales (V m c main_v2) := by
  rw [List.flatten_cons, List.flatten_nil, List.append_nil, StableHlo.after_of_writes_sub (r := main_v3_1) hostOps1 _ hostOps1_wr (by decide), exitV_v3_1]

/-- The codes as the program returns them: the rows that are no tile's left out. -/
def outc (y : Vec Ideal S1024x2560 .fp8e4m3) : Vec Ideal S16x60x2560 .fp8e4m3 :=
  shapeCast _ (extractStridedSlice S16x2x30x2560 ![0, 0, 0, 0] (shapeCast S16x2x32x2560 y shapeCasts_S1024x2560_S16x2x32x2560)
    slices_S16x2x32x2560_S16x2x30x2560_0_0_0_0) shapeCasts_S16x2x30x2560_S16x60x2560

theorem after_v6 (c : Dev nD) : StableHlo.after (List.flatten [hostOps1]) (exitV m c) (Proc.devRef .tc main_v6) = outc (codes (V m c main_v2)) := by
  rw [← exitV_v3_0 m c]
  generalize exitV m c = X
  rw [List.flatten_cons, List.flatten_nil, List.append_nil]
  after_results_simp
  rfl

/-- The input as the region reads it: two rows of zeros after each band. -/
def inv2 (x : Vec Ideal S16x60x2560 .f32) : Vec Ideal S4x256x2560 .f32 :=
  shapeCast _ (pad S16x2x32x2560 ![0, 0, 0, 0] ![0, 0, 2, 0] ![0, 0, 0, 0] (shapeCast S16x2x30x2560 x shapeCasts_S16x60x2560_S16x2x30x2560)
    (sitofp (F := Ideal) .f32 (constantI S_ 32 0#32)) pads_S16x2x30x2560_S16x2x32x2560_000_000_020_000 h_S_) shapeCasts_S16x2x32x2560_S4x256x2560

theorem V_v2 (c : Dev nD) : V m c main_v2 = inv2 (m ((c.tc : Thread nD τ).loc main_arg0)) := by
  unfold V V0
  simp only [List.flatten_cons, List.flatten_nil, List.append_nil, hostOps0, hostOps0_1, hostOps0_2, List.cons_append, List.nil_append]
  after_results_simp
  rfl

/-- The program's run: its results, its argument unchanged. -/
theorem runV : θ_run defs (onTc (τ := τ) (main (F := Ideal))) ⟨m, fun _ => 0, ρ⟩ (fun r => ∀ c : Dev nD,
      r.2.mem ((c.tc : Thread nD τ).loc main_v6) = outc (codes (V m c main_v2))
      ∧ r.2.mem ((c.tc : Thread nD τ).loc main_v3_1) = scales (V m c main_v2)
      ∧ r.2.mem ((c.tc : Thread nD τ).loc main_arg0) = m ((c.tc : Thread nD τ).loc main_arg0)) :=
  (θ_run defs _ _).mono (fun _ h c =>
      ⟨(h c main_v6 (Pipeline.mem_restRefs_of main_v6 (by decide) (by decide))).trans (after_v6 m c),
      (h c main_v3_1 (Pipeline.mem_restRefs_of main_v3_1 (by decide) (by decide))).trans (after_v3_1 m c),
      (h c main_arg0 (Pipeline.mem_restRefs_of main_arg0 (by decide) (by decide))).trans ((after_keep m c main_arg0 (by decide) (by decide)).trans (V_main_arg0 m c))⟩) (run_mainV m ρ)

/-! ## Element by element -/

/-- A row of the input. -/
abbrev rowV (x : Vec Ideal S16x60x2560 .f32) (p : Fin 16) (n : Fin 60) : Fin 2560 → EReal := fun d => x (ix3 p n d)

theorem pad_at (x : Vec Ideal S16x2x30x2560 .f32) {u : Shape} (v : u.Idx → EReal) (h : S16x2x30x2560.Pads ![0, 0, 0, 0] ![0, 0, 2, 0] ![0, 0, 0, 0] S16x2x32x2560) (hu)
    (p : Fin 16) (s : Fin 2) (q : Fin 30) (d : Fin 2560) :
    pad S16x2x32x2560 ![0, 0, 0, 0] ![0, 0, 2, 0] ![0, 0, 0, 0] x v h hu (ix4 p s ⟨q.val, by omega⟩ d) = x (ix4 p s q d) := by
  refine pad_apply_of_inside _ _ _ x v h hu _ (ix4 p s q d) fun a => ?_
  fin_cases a <;> simp

theorem in_at' (x : Vec Ideal S16x60x2560 .f32) (a b : Fin 4) (s : Fin 2) (q : Fin 30) (d : Fin 2560) :
    inv2 x (ix3 a ⟨64 * b.val + (32 * s.val + q.val), by omega⟩ d) = x (ix3 ⟨4 * a.val + b.val, by omega⟩ ⟨30 * s.val + q.val, by omega⟩ d) := by
  have e1 : ∀ y : S16x2x32x2560.Idx → EReal, shapeCast S4x256x2560 y shapeCasts_S16x2x32x2560_S4x256x2560 (ix3 a ⟨64 * b.val + (32 * s.val + q.val), by omega⟩ d)
      = y (ix4 ⟨4 * a.val + b.val, by omega⟩ s ⟨q.val, by omega⟩ d) := fun y => by
    pointwise
    refine congrArg y (funext fun c => Fin.ext ?_)
    match c with
    | ⟨0, _⟩ => exact (by show a.val * 4 + (64 * b.val + (32 * s.val + q.val)) / 64 = 4 * a.val + b.val; omega)
    | ⟨1, _⟩ => rfl
    | ⟨2, _⟩ => exact (by show (64 * b.val + (32 * s.val + q.val)) % 32 = q.val; omega)
    | ⟨3, _⟩ => rfl
  have e2 : ∀ y : S16x60x2560.Idx → EReal, shapeCast S16x2x30x2560 y shapeCasts_S16x60x2560_S16x2x30x2560 (ix4 ⟨4 * a.val + b.val, by omega⟩ s q d)
      = y (ix3 ⟨4 * a.val + b.val, by omega⟩ ⟨30 * s.val + q.val, by omega⟩ d) := fun y => by
    pointwise
    refine congrArg y (funext fun c => Fin.ext ?_)
    match c with
    | ⟨0, _⟩ => rfl
    | ⟨1, _⟩ => exact (by show s.val * 30 + q.val = 30 * s.val + q.val; omega)
    | ⟨2, _⟩ => rfl
  unfold inv2
  rw [e1, pad_at, e2]

theorem rowOf_val (n : Fin 60) : (rowOf n).val = 32 * (n.val / 30) + n.val % 30 := by
  have := n.isLt
  unfold rowOf
  split
  · show n.val = _; omega
  · show n.val + 2 = _; omega

theorem in_at (x : Vec Ideal S16x60x2560 .f32) (p : Fin 16) (n : Fin 60) (d : Fin 2560) :
    vb (inv2 x) p.val (ix2 (rowOf n) d) = x (ix3 p n d) := by
  have h := in_at' x ⟨p.val / 4, by omega⟩ ⟨p.val % 4, by omega⟩ ⟨n.val / 30, by omega⟩ ⟨n.val % 30, by omega⟩ d
  refine Eq.trans (congrArg (inv2 x) (funext fun c => Fin.ext ?_)) (h.trans (congrArg x (funext fun c => Fin.ext ?_)))
  · match c with
    | ⟨0, _⟩ => exact (by show p.val / 4 % 4 = p.val / 4; omega)
    | ⟨1, _⟩ => exact (by show 64 * (p.val % 4) + (rowOf n).val = 64 * (p.val % 4) + (32 * (n.val / 30) + n.val % 30); rw [rowOf_val])
    | ⟨2, _⟩ => rfl
  · match c with
    | ⟨0, _⟩ => exact (by show 4 * (p.val / 4) + p.val % 4 = p.val; omega)
    | ⟨1, _⟩ => exact (by show 30 * (n.val / 30) + n.val % 30 = n.val; omega)
    | ⟨2, _⟩ => rfl

theorem out_at' (y : Vec Ideal S1024x2560 .fp8e4m3) (p : Fin 16) (s : Fin 2) (q : Fin 30) (d : Fin 2560) :
    outc y (ix3 p ⟨s.val * 30 + q.val, by omega⟩ d) = y (ix2 ⟨p.val * 64 + s.val * 32 + q.val, by omega⟩ d) := by
  unfold outc
  pointwise

theorem scales_at (x : Vec Ideal S16x60x2560 .f32) (p : Fin 16) (n : Fin 60) :
    scales (inv2 x) (ix2 p n) = Cert.Quant.scale (Cert.Quant.rowQ (rowV x p n)) := by
  refine (sbv_at _ _ _).trans ?_
  exact congrArg (fun r => Cert.Quant.scale (Cert.Quant.rowQ r)) (funext fun d => in_at x p n d)

theorem codes_at (x : Vec Ideal S16x60x2560 .f32) (p : Fin 16) (n : Fin 60) (d : Fin 2560) :
    outc (codes (inv2 x)) (ix3 p n d) = min (Ideal.ofBits .f32 0x43E00000#32) (max (Ideal.ofBits .f32 0xC3E00000#32)
      (x (ix3 p n d) * Cert.Quant.inv (Cert.Quant.rowQ (rowV x p n)))) := by
  have e : ∀ y : Vec Ideal S1024x2560 .fp8e4m3, outc y (ix3 p n d) = y (ix2 ⟨64 * p.val + (rowOf n).val, by omega⟩ d) := fun y => by
    have h := out_at' y p ⟨n.val / 30, by omega⟩ ⟨n.val % 30, by omega⟩ d
    refine Eq.trans (congrArg (outc y) (funext fun c => Fin.ext ?_)) (h.trans (congrArg y (funext fun c => Fin.ext ?_)))
    · match c with
      | ⟨0, _⟩ => rfl
      | ⟨1, _⟩ => exact (by show n.val = n.val / 30 * 30 + n.val % 30; omega)
      | ⟨2, _⟩ => rfl
    · match c with
      | ⟨0, _⟩ => exact (by show p.val * 64 + n.val / 30 * 32 + n.val % 30 = 64 * p.val + (rowOf n).val; rw [rowOf_val]; omega)
      | ⟨1, _⟩ => rfl
  rw [e]
  have e1 : codes (inv2 x) (ix2 (⟨64 * p.val + (rowOf n).val, by omega⟩ : Fin 1024) d) = cdv (vb (inv2 x) p.val) (ix2 (rowOf n) d) := by
    have h1 : (64 * p.val + (rowOf n).val) / 64 = p.val := by omega
    have h2 : (64 * p.val + (rowOf n).val) % 64 = (rowOf n).val := by omega
    show cdv (vb (inv2 x) ((64 * p.val + (rowOf n).val) / 64)) (ix2 ⟨(64 * p.val + (rowOf n).val) % 64, _⟩ d) = _
    rw [h1]
    exact congrArg (fun r => cdv (vb (inv2 x) p.val) (ix2 r d)) (Fin.ext h2)
  rw [e1, cdv_at, in_at]
  exact congrArg (fun r => min _ (max _ (_ * Cert.Quant.inv (Cert.Quant.rowQ r)))) (funext fun d => in_at x p n d)

end Cert.QuantiseIdeal.HandV

end
-- ==== Proof.QRValue.lean ====
/- The quantiser's reference, element by element. -/
module

public import proofs.«01_k».proof.Proof.Gen.QuantiseReferenceIdeal.Value
public import proofs.«01_k».proof.Proof.QMath
public import Idealize.ShloMosaic.Lib.Pointwise
public import Idealize.ShloMosaic.Lib.Pipeline.ValueKit
public import Idealize.ShloMosaic.PureOps.Ideal

@[expose] public section

set_option maxRecDepth 16384

noncomputable section

namespace Cert.QuantiseReferenceIdeal.Hand

open Cert.QuantiseReferenceIdeal Cert.QuantiseReferenceIdeal.Gen Cert.QuantiseReferenceIdeal.Value
open Idealize.ShloMosaic Idealize.ShloMosaic.TcCoe

/-- A row's greatest magnitude over the format's greatest. -/
def qs (x : FVec Ideal S16x60x2560 .f32) : FVec Ideal S16x60 .f32 :=
  mulf (Host.reduce FloatOps.maximumf (Host.absf x) (constant S_ .f32 0xFF800000#32) reducesTo_S16x60x2560_S16x60_d2 h_S_)
    (broadcastInDim S16x60 ![] bcast_S_S16x60 (constant (F := Ideal) S_ .f32 0x3B124925#32))

/-- The powers of two. -/
def pows : FVec Ideal S254 .f32 := fun i => FloatOps.ofBits .f32 (lit0 (S254.rowMajor i))

/-- The powers above a row's number, +∞ in place of the others. -/
def above (q : FVec Ideal S16x60 .f32) : FVec Ideal S16x60x254 .f32 :=
  select (cmpf .ogt (broadcastInDim S16x60x254 ![0, 1, 2] bcast_S1x1x254_S16x60x254_0_1_2 (broadcastInDim S1x1x254 ![2] bcast_S254_S1x1x254_2 pows))
      (broadcastInDim S16x60x254 ![0, 1, 2] bcast_S16x60x1_S16x60x254_0_1_2 (broadcastInDim S16x60x1 ![0, 1] bcast_S16x60_S16x60x1_0_1 q)))
    (broadcastInDim S16x60x254 ![2] bcast_S254_S16x60x254_2 pows) (broadcastInDim S16x60x254 ![] bcast_S_S16x60x254 (constant (F := Ideal) S_ .f32 0x7F800000#32))

/-- The scales. -/
def sc (q : FVec Ideal S16x60 .f32) : FVec Ideal S16x60 .f32 :=
  select (cmpf .olt q (broadcastInDim S16x60 ![] bcast_S_S16x60 (constant (F := Ideal) S_ .f32 0x00800000#32)))
    (broadcastInDim S16x60 ![] bcast_S_S16x60 (constant (F := Ideal) S_ .f32 0x3F800000#32))
    (Host.reduce FloatOps.minimumf (above q) (constant S_ .f32 0x7F800000#32) reducesTo_S16x60x254_S16x60_d2 h_S_)

/-- The numbers before they are cast to the narrow format. -/
def cl (x : FVec Ideal S16x60x2560 .f32) (s : FVec Ideal S16x60 .f32) : FVec Ideal S16x60x2560 .f32 :=
  minimumf (broadcastInDim S16x60x2560 ![] bcast_S_S16x60x2560 (constant (F := Ideal) S_ .f32 0x43E00000#32))
    (maximumf (broadcastInDim S16x60x2560 ![] bcast_S_S16x60x2560 (constant (F := Ideal) S_ .f32 0xC3E00000#32))
      (mulf x (broadcastInDim S16x60x2560 ![0, 1, 2] bcast_S16x60x1_S16x60x2560_0_1_2 (broadcastInDim S16x60x1 ![0, 1] bcast_S16x60_S16x60x1_0_1
        (Host.divf (broadcastInDim S16x60 ![] bcast_S_S16x60 (constant (F := Ideal) S_ .f32 0x3F800000#32)) s)))))

/-! ## Element by element -/

theorem lit_eq : ∀ k : Fin 254, lit0 k = BitVec.ofNat 32 (k.val + 1) <<< (23#32) := by decide +kernel

theorem pows_at (k : Fin 254) : pows (ix1 k) = Cert.Quant.pw (k.val + 1) := by
  have h : S254.rowMajor (ix1 k) = k := by
    apply Fin.ext
    exact Shape.rowMajor_val_one (ix1 k)
  show Ideal.ofBits .f32 (lit0 (S254.rowMajor (ix1 k))) = _
  rw [h, lit_eq]
  rfl

theorem neg_inf : Ideal.ofBits .f32 0xFF800000#32 = ⊥ := by simp [Ideal.ofBits, Ideal.ieee]
theorem pos_inf : Ideal.ofBits .f32 0x7F800000#32 = ⊤ := by simp [Ideal.ofBits, Ideal.ieee]

theorem red_v : S16x60x2560.Reduces [2] S16x60 := by decide +kernel
theorem red_p : S16x60x254.Reduces [2] S16x60 := by decide +kernel

theorem lift_v (h : S16x60x2560.Reduces [2] S16x60) (p : Fin 16) (n : Fin 60) (d : Fin 2560) : h.lift (ix2 p n) d = ix3 p n d := by
  funext c; apply Fin.ext
  fin_cases c <;> rfl
theorem lift_p (h : S16x60x254.Reduces [2] S16x60) (p : Fin 16) (n : Fin 60) (k : Fin 254) : h.lift (ix2 p n) k = ix3 p n k := by
  funext c; apply Fin.ext
  fin_cases c <;> rfl

theorem qs_at (x : FVec Ideal S16x60x2560 .f32) (p : Fin 16) (n : Fin 60) : qs x (ix2 p n) = Cert.Quant.rowQ fun d => x (ix3 p n d) := by
  unfold Cert.Quant.rowQ
  refine congrArg (· * Ideal.ofBits .f32 0x3B124925#32) ((Host.reduce_eq_fold_single (FloatOps.maximumf (F := Ideal) (φ := .f32)) _ _ _ red_v _ _).trans ?_)
  show (Finset.univ : Finset (Fin 2560)).fold max (Ideal.ofBits .f32 0xFF800000#32) _ = _
  rw [neg_inf]
  refine congrArg (fun f => Finset.fold max (⊥ : EReal) f (Finset.univ : Finset (Fin 2560))) (funext fun d => ?_)
  exact congrArg (Host.absf (F := Ideal) (φ := .f32) x) (lift_v red_v p n d)

theorem above_at (q : FVec Ideal S16x60 .f32) (p : Fin 16) (n : Fin 60) (k : Fin 254) :
    above q (ix3 p n k) = if q (ix2 p n) < Cert.Quant.pw (k.val + 1) then Cert.Quant.pw (k.val + 1) else ⊤ := by
  have e1 : ∀ y : S254.Idx → EReal, broadcastInDim S16x60x254 ![0, 1, 2] bcast_S1x1x254_S16x60x254_0_1_2 (broadcastInDim S1x1x254 ![2] bcast_S254_S1x1x254_2 y) (ix3 p n k) = y (ix1 k) := fun y => by pointwise
  have e2 : ∀ y : S16x60.Idx → EReal, broadcastInDim S16x60x254 ![0, 1, 2] bcast_S16x60x1_S16x60x254_0_1_2 (broadcastInDim S16x60x1 ![0, 1] bcast_S16x60_S16x60x1_0_1 y) (ix3 p n k) = y (ix2 p n) := fun y => by pointwise
  have e3 : ∀ y : S254.Idx → EReal, broadcastInDim S16x60x254 ![2] bcast_S254_S16x60x254_2 y (ix3 p n k) = y (ix1 k) := fun y => by pointwise
  show Scalar.select (Ideal.cmp .ogt (broadcastInDim S16x60x254 ![0, 1, 2] bcast_S1x1x254_S16x60x254_0_1_2 (broadcastInDim S1x1x254 ![2] bcast_S254_S1x1x254_2 pows) (ix3 p n k))
      (broadcastInDim S16x60x254 ![0, 1, 2] bcast_S16x60x1_S16x60x254_0_1_2 (broadcastInDim S16x60x1 ![0, 1] bcast_S16x60_S16x60x1_0_1 q) (ix3 p n k)))
    (broadcastInDim S16x60x254 ![2] bcast_S254_S16x60x254_2 pows (ix3 p n k)) (Ideal.ofBits .f32 0x7F800000#32) = _
  rw [e1, e2, e3, pows_at, pos_inf]
  show Scalar.select (BitVec.ofBool (decide (q (ix2 p n) < Cert.Quant.pw (k.val + 1)))) _ _ = _
  by_cases h : q (ix2 p n) < Cert.Quant.pw (k.val + 1)
  · simp [h, Scalar.select]
  · simp [h, Scalar.select]

theorem sc_at (q : FVec Ideal S16x60 .f32) (p : Fin 16) (n : Fin 60) : sc q (ix2 p n) = Cert.Quant.rscale (q (ix2 p n)) := by
  have e : Host.reduce FloatOps.minimumf (above q) (constant S_ .f32 0x7F800000#32) reducesTo_S16x60x254_S16x60_d2 h_S_ (ix2 p n) = Cert.Quant.above (q (ix2 p n)) := by
    refine (Host.reduce_eq_fold_single (FloatOps.minimumf (F := Ideal) (φ := .f32)) _ _ _ red_p _ _).trans ?_
    unfold Cert.Quant.above
    show (Finset.univ : Finset (Fin 254)).fold min (Ideal.ofBits .f32 0x7F800000#32) _ = _
    rw [pos_inf]
    refine congrArg (fun f => Finset.fold min (⊤ : EReal) f (Finset.univ : Finset (Fin 254))) (funext fun k => ?_)
    exact (congrArg (above q) (lift_p red_p p n k)).trans (above_at q p n k)
  show Scalar.select (Ideal.cmp .olt (q (ix2 p n)) (Ideal.ofBits .f32 0x00800000#32)) (Ideal.ofBits .f32 0x3F800000#32)
    (Host.reduce FloatOps.minimumf (above q) (constant S_ .f32 0x7F800000#32) reducesTo_S16x60x254_S16x60_d2 h_S_ (ix2 p n)) = _
  rw [e]
  unfold Cert.Quant.rscale
  have h1 : Ideal.ofBits .f32 0x00800000#32 = Cert.Quant.pw 1 := rfl
  have h2 : Ideal.ofBits .f32 0x3F800000#32 = 1 := Cert.Quant.pw_one
  rw [h1, h2]
  show Scalar.select (BitVec.ofBool (decide (q (ix2 p n) < Cert.Quant.pw 1))) _ _ = _
  by_cases h : q (ix2 p n) < Cert.Quant.pw 1
  · simp [h, Scalar.select]
  · simp [h, Scalar.select]

theorem cl_at (x : FVec Ideal S16x60x2560 .f32) (s : FVec Ideal S16x60 .f32) (p : Fin 16) (n : Fin 60) (d : Fin 2560) :
    cl x s (ix3 p n d) = min (Ideal.ofBits .f32 0x43E00000#32) (max (Ideal.ofBits .f32 0xC3E00000#32) (x (ix3 p n d) * Ideal.div 1 (s (ix2 p n)))) := by
  have e2 : ∀ y : S16x60.Idx → EReal, broadcastInDim S16x60x2560 ![0, 1, 2] bcast_S16x60x1_S16x60x2560_0_1_2 (broadcastInDim S16x60x1 ![0, 1] bcast_S16x60_S16x60x1_0_1 y) (ix3 p n d) = y (ix2 p n) := fun y => by pointwise
  refine congrArg (fun t => min (Ideal.ofBits .f32 0x43E00000#32) (max (Ideal.ofBits .f32 0xC3E00000#32) (x (ix3 p n d) * t))) ((e2 _).trans ?_)
  show Ideal.div (Ideal.ofBits .f32 0x3F800000#32) (s (ix2 p n)) = _
  rw [show Ideal.ofBits .f32 0x3F800000#32 = 1 from Cert.Quant.pw_one]

end Cert.QuantiseReferenceIdeal.Hand

end
-- ==== Proof.QRRun.lean ====
/- The quantiser's reference, as a run: its results are the lines' functions of the
   argument. -/
module

public import proofs.«01_k».proof.Proof.Gen.QuantiseReferenceIdeal.Value
public import proofs.«01_k».proof.Proof.QRValue
public import Idealize.ShloMosaic.Lib.Pointwise
public import Idealize.ShloMosaic.Lib.Pipeline.ValueKit
public import Idealize.ShloMosaic.PureOps.Ideal

@[expose] public section

set_option maxRecDepth 16384

noncomputable section

namespace Cert.QuantiseReferenceIdeal.Hand

open Cert.QuantiseReferenceIdeal Cert.QuantiseReferenceIdeal.Gen Cert.QuantiseReferenceIdeal.Value
open Idealize.ShloMosaic Idealize.ShloMosaic.TcCoe

variable (m : (ℓ : Loc nD τ sig) → Buf (Elt Ideal) ℓ) (ρ : Dev nD → PrngReg)

theorem V_v13 (c : Dev nD) : V m c main_v13 = sc (qs (m ((c : Thread nD τ).loc main_arg0))) := by
  unfold V
  simp only [List.flatten_cons, List.flatten_nil, List.append_nil, hostOps0, hostOps0_1, hostOps0_2, hostOps0_3, hostOps0_4, hostOps0_5, List.cons_append, List.nil_append]
  after_results_simp
  simp only [StableHlo.TRef.ofBuf_toBuf, id]
  unfold sc above qs pows
  simp -implicitDefEqProofs only [StableHlo.TRef.toBuf, StableHlo.TRef.ofBuf, cast_cast, cast_eq]
  rfl

theorem V_v19 (c : Dev nD) : V m c main_v19 = cl (m ((c : Thread nD τ).loc main_arg0)) (sc (qs (m ((c : Thread nD τ).loc main_arg0)))) := by
  unfold V
  simp only [List.flatten_cons, List.flatten_nil, List.append_nil, hostOps0, hostOps0_1, hostOps0_2, hostOps0_3, hostOps0_4, hostOps0_5, List.cons_append, List.nil_append]
  after_results_simp
  simp only [StableHlo.TRef.ofBuf_toBuf, id]
  unfold cl sc above qs pows
  simp -implicitDefEqProofs only [StableHlo.TRef.toBuf, StableHlo.TRef.ofBuf, cast_cast, cast_eq]
  rfl

theorem idx : ∀ t : Fin cfg0.N, win0_0.index t = ![0, 0, 0] ∧ win0_1.index t = ![0, 0, 0] :=
  (by decide +kernel : ∀ t : Fin grid0.N, _)

theorem iblk0 (c : Dev nD) : iblk m c 0 t0_0 = V m c main_v19 := by
  generalize hX : V m c main_v19 = X
  blk_ext! [iblk, hX, idx t0_0]

theorem off0 : (![0, 0, 0] : Fin 3 → ℕ) = fun _ => 0 := by decide

theorem reg0 (c : Dev nD) : (dats m 0 c).arrAt 1 cfg0.N = (V m c main_v19 : S16x60x2560.Idx → EReal) := by
  refine (dats m 0 c).arrAt_eq_of_after_last 1 t0_0 (by decide +kernel) _ fun j => ?_
  blk_simp
  rw [after0_1]
  unfold out0_1 r0_0
  rw [View.canon_unit_zero off0, View.ld_unit_zero off0, iblk0]
  exact shapeCast_apply (s := S16x60x2560) (t := S16x60x2560) (V m c main_v19 : S16x60x2560.Idx → EReal) shapeCasts_S16x60x2560_S16x60x2560 j j rfl

/-- The reference's run: its results, its argument unchanged. -/
theorem runV : θ_run defs (onTc (τ := τ) (main (F := Ideal))) ⟨m, fun _ => 0, ρ⟩ (fun r => ∀ c : Dev nD,
      r.2.mem ((c : Thread nD τ).loc main_v20) = (cl (m ((c : Thread nD τ).loc main_arg0)) (sc (qs (m ((c : Thread nD τ).loc main_arg0)))) : S16x60x2560.Idx → EReal)
      ∧ r.2.mem ((c : Thread nD τ).loc main_v13) = sc (qs (m ((c : Thread nD τ).loc main_arg0)))
      ∧ r.2.mem ((c : Thread nD τ).loc main_arg0) = m ((c : Thread nD τ).loc main_arg0)) :=
  (θ_run defs _ _).mono (fun r h c => ⟨(post1 m r h c).trans ((reg0 m c).trans (V_v19 m c)),
      ((h c).2 main_v13 (Pipeline.mem_restRefs_of main_v13 (by decide) (by decide))).trans (V_v13 m c),
      kept_main_arg0 m r h c⟩)
    (run_main m ρ)

end Cert.QuantiseReferenceIdeal.Hand

end
-- ==== Proof.QEqual.lean ====
/- The quantiser and its reference compute the same codes and the same scales. -/
module

public import proofs.«01_k».proof.Defs
public import proofs.«01_k».proof.Proof.QIValue
public import proofs.«01_k».proof.Proof.QRRun

@[expose] public section

noncomputable section

namespace Cert.Proof

open Idealize.ShloMosaic Idealize.ShloMosaic.TcCoe
open Cert.QuantiseIdeal.HandV (V_v2 outc codes scales inv2 codes_at scales_at)
open Cert.QuantiseReferenceIdeal.Hand (sc qs cl sc_at qs_at cl_at)

/-- The precondition's side condition. -/
theorem pre_facts : Cert.Pre_finite.Facts := ⟨by decide⟩

/-- What the precondition says of an element. -/
theorem pre_at (h : Cert.Pre_finite.Facts) (x : Cert.QuantiseIdeal.S16x60x2560.Idx → EReal)
    (hx : Cert.Pre_finite.fn (F := Ideal) x = fun _ => 1#1) (p : Fin 16) (n : Fin 60) (d : Fin 2560) :
    max (x (ix3 p n d)) (-(x (ix3 p n d))) ≤ Ideal.ofBits .f32 0x7F7FFFFF#32 := by
  have h1 := congrFun hx (ix3 p n d)
  have h2 : BitVec.ofBool (decide (max (x (ix3 p n d)) (-(x (ix3 p n d))) ≤ Ideal.ofBits .f32 0x7F7FFFFF#32)) = 1#1 := h1
  by_contra hc
  rw [decide_eq_false hc] at h2
  exact absurd h2 (by decide)

theorem quant_scales (h : Cert.Pre_finite.Facts) (x : Cert.QuantiseIdeal.S16x60x2560.Idx → EReal)
    (hx : Cert.Pre_finite.fn (F := Ideal) x = fun _ => 1#1) : (sc (qs x) : Cert.QuantiseIdeal.S16x60.Idx → EReal) = scales (inv2 x) := by
  funext i
  obtain ⟨p, n, rfl⟩ : ∃ (p : Fin 16) (n : Fin 60), i = ix2 p n := ⟨i 0, i 1, eq_ix2 i⟩
  obtain ⟨h1, h2⟩ := Cert.Quant.rowQ_good (fun d => x (ix3 p n d)) (pre_at h x hx p n)
  refine (sc_at _ p n).trans ?_
  rw [qs_at, (Cert.Quant.rscale_eq h1 h2).1]
  exact (scales_at x p n).symm

theorem quant_codes (h : Cert.Pre_finite.Facts) (x : Cert.QuantiseIdeal.S16x60x2560.Idx → EReal)
    (hx : Cert.Pre_finite.fn (F := Ideal) x = fun _ => 1#1) : (cl x (sc (qs x)) : Cert.QuantiseIdeal.S16x60x2560.Idx → EReal) = outc (codes (inv2 x)) := by
  funext i
  obtain ⟨p, n, d, rfl⟩ : ∃ (p : Fin 16) (n : Fin 60) (d : Fin 2560), i = ix3 p n d := ⟨i 0, i 1, i 2, eq_ix3 i⟩
  obtain ⟨h1, h2⟩ := Cert.Quant.rowQ_good (fun d => x (ix3 p n d)) (pre_at h x hx p n)
  refine (cl_at x _ p n d).trans ?_
  rw [sc_at, qs_at, (Cert.Quant.rscale_eq h1 h2).2]
  exact (codes_at x p n d).symm

/-- Over the extended reals the quantiser and its reference, given the same finite argument, end with the same results. -/
theorem algebraicQ : Cert.algebraic_QuantiseIdeal_QuantiseReferenceIdeal_pre_finite (hPre_finite := pre_facts) := by
  intro m g m' g' hpre hagree
  refine ⟨fun c => outc (codes (Cert.QuantiseIdeal.Gen.V m c Cert.QuantiseIdeal.main_v2)), fun c => scales (Cert.QuantiseIdeal.Gen.V m c Cert.QuantiseIdeal.main_v2),
    Cert.QuantiseIdeal.HandV.runV m g, ?_⟩
  refine (θ_run Cert.QuantiseReferenceIdeal.defs _ _).mono (fun r h c => ?_) (Cert.QuantiseReferenceIdeal.Hand.runV m' g')
  obtain ⟨h1, h2, h3⟩ := h c
  have ha := hagree c
  refine ⟨h1.trans ?_, h2.trans ?_, h3⟩
  · beta_reduce; rw [ha, V_v2]; exact quant_codes pre_facts _ (hpre c)
  · beta_reduce; rw [ha, V_v2]; exact quant_scales pre_facts _ (hpre c)

end Cert.Proof

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Quantise
public import proofs.«01_k».proof.Proof.Gen.Quantise.Skeleton
public import proofs.«01_k».proof.Proof.Gen.Quantise.Launch
public import proofs.«01_k».proof.Proof.Gen.Quantise.Points
public import proofs.«01_k».proof.Proof.Gen.Quantise.Frame
public import proofs.«01_k».proof.Proof.Gen.QuantiseIdeal
public import proofs.«01_k».proof.Proof.Gen.QuantiseIdeal.Skeleton
public import proofs.«01_k».proof.Proof.Gen.QuantiseIdeal.Launch
public import proofs.«01_k».proof.Proof.Gen.QuantiseIdeal.Points
public import proofs.«01_k».proof.Proof.Gen.QuantiseIdeal.Frame
public import proofs.«01_k».proof.Proof.Gen.QuantiseReferenceIdeal
public import proofs.«01_k».proof.Proof.Gen.QuantiseReferenceIdeal.Skeleton
public import proofs.«01_k».proof.Proof.Gen.QuantiseReferenceIdeal.Launch
public import proofs.«01_k».proof.Proof.Gen.QuantiseReferenceIdeal.Points
public import proofs.«01_k».proof.Proof.Gen.QuantiseReferenceIdeal.Frame
public import proofs.«01_k».proof.Proof.Gen.QuantiseReferenceIdeal.Value
public import proofs.«01_k».proof.Proof.KFrame
public import proofs.«01_k».proof.Proof.IFrame
public import proofs.«01_k».proof.Proof.Equal
public import proofs.«01_k».proof.Proof.QFrame
public import proofs.«01_k».proof.Proof.QIFrame
public import proofs.«01_k».proof.Proof.QEqual
public import Idealize.ShloMosaic.Lib.Bf16PairInverse
public import Idealize.ShloMosaic.Adequacy
public import Idealize.ShloMosaic.Init

@[expose] public section

noncomputable section

namespace Cert.Proof

open Idealize.ShloMosaic Idealize.SL.Sem

/-- The ledger's sites as their six distinct statements, in the order the claim lists them. -/
theorem preserves : Cert.preserves_Kernel_KernelIdeal :=
  ⟨IdealRules.bf16_pair.bufferStatement _ _, IdealRules.bf16_pair.packStatement _,
    IdealRules.bf16_pair.statement _ _, IdealRules.bf16_pair.statement _ _,
    IdealRules.bf16_pair.statement _ _, IdealRules.bf16_pair.statement _ _⟩

theorem claim : Cert.Claim :=
  ⟨Cert.Kernel.Gen.facts, Cert.KernelIdeal.Gen.facts, Cert.ReferenceIdeal.Gen.facts,
    Cert.Quantise.Gen.facts, Cert.QuantiseIdeal.Gen.facts, Cert.QuantiseReferenceIdeal.Gen.facts, pre_facts,
    fun m ρ _ => Cert.Kernel.Hand.frame m ρ,
    fun m ρ _ => Cert.KernelIdeal.Hand.frame m ρ,
    fun m ρ _ => Cert.ReferenceIdeal.Gen.frame m ρ,
    fun m ρ _ => Cert.Quantise.Hand.frame m ρ,
    fun m ρ _ => Cert.QuantiseIdeal.Hand.frame m ρ,
    fun m ρ _ => Cert.QuantiseIdeal.Hand.frame m ρ,
    fun m ρ _ => Cert.QuantiseReferenceIdeal.Gen.frame m ρ,
    fun m ρ _ => Cert.QuantiseReferenceIdeal.Gen.frame m ρ,
    preserves, algebraic, trivial, algebraicQ⟩

end Cert.Proof

end
